-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x16x577x577 : Shape := ⟨4, ![4, 16, 577, 577]⟩
abbrev S16x2212 : Shape := ⟨2, ![16, 2212]⟩
abbrev S24 : Shape := ⟨1, ![24]⟩
abbrev S24x24 : Shape := ⟨2, ![24, 24]⟩
abbrev S24x24x1 : Shape := ⟨3, ![24, 24, 1]⟩
abbrev S24x24x2 : Shape := ⟨3, ![24, 24, 2]⟩
abbrev S576x2 : Shape := ⟨2, ![576, 2]⟩
abbrev S576x1x2 : Shape := ⟨3, ![576, 1, 2]⟩
abbrev S1x576x2 : Shape := ⟨3, ![1, 576, 2]⟩
abbrev S576x576x2 : Shape := ⟨3, ![576, 576, 2]⟩
abbrev S576x576x1 : Shape := ⟨3, ![576, 576, 1]⟩
abbrev S576x576 : Shape := ⟨2, ![576, 576]⟩
abbrev S_ : Shape := ⟨0, ![]⟩
abbrev S1x576 : Shape := ⟨2, ![1, 576]⟩
abbrev S576x1 : Shape := ⟨2, ![576, 1]⟩
abbrev S1x1 : Shape := ⟨2, ![1, 1]⟩
abbrev S577x1 : Shape := ⟨2, ![577, 1]⟩
abbrev S577x576 : Shape := ⟨2, ![577, 576]⟩
abbrev S577x577 : Shape := ⟨2, ![577, 577]⟩
abbrev S332929 : Shape := ⟨1, ![332929]⟩
abbrev S333824 : Shape := ⟨1, ![333824]⟩
abbrev S35392 : Shape := ⟨1, ![35392]⟩
abbrev S5341184 : Shape := ⟨1, ![5341184]⟩
abbrev S2608 : Shape := ⟨1, ![2608]⟩
abbrev S41728 : Shape := ⟨1, ![41728]⟩
abbrev S16 : Shape := ⟨1, ![16]⟩
abbrev S16x333824 : Shape := ⟨2, ![16, 333824]⟩
abbrev S4x16x332929 : Shape := ⟨3, ![4, 16, 332929]⟩
abbrev S1x16x16384 : Shape := ⟨3, ![1, 16, 16384]⟩
abbrev S16x16384 : Shape := ⟨2, ![16, 16384]⟩

abbrev nBuf : Table → Nat
  | .hbm => 58
  | .local .tc .vmem => 6
  | .local .scVector .vmem => 3
  | _ => 0

abbrev bufTy : (tb : Table) → Fin (nBuf tb) → BufTy
  | .hbm, ⟨0, _⟩ => ⟨S4x16x577x577, .f32⟩
  | .hbm, ⟨1, _⟩ => ⟨S16x2212, .f32⟩
  | .hbm, ⟨2, _⟩ => ⟨S24, .i32⟩
  | .hbm, ⟨3, _⟩ => ⟨S24, .i32⟩
  | .hbm, ⟨4, _⟩ => ⟨S24x24, .i32⟩
  | .hbm, ⟨5, _⟩ => ⟨S24x24, .i32⟩
  | .hbm, ⟨6, _⟩ => ⟨S24x24x1, .i32⟩
  | .hbm, ⟨7, _⟩ => ⟨S24x24x1, .i32⟩
  | .hbm, ⟨8, _⟩ => ⟨S24x24x2, .i32⟩
  | .hbm, ⟨9, _⟩ => ⟨S576x2, .i32⟩
  | .hbm, ⟨10, _⟩ => ⟨S576x1x2, .i32⟩
  | .hbm, ⟨11, _⟩ => ⟨S1x576x2, .i32⟩
  | .hbm, ⟨12, _⟩ => ⟨S576x576x2, .i32⟩
  | .hbm, ⟨13, _⟩ => ⟨S576x576x2, .i32⟩
  | .hbm, ⟨14, _⟩ => ⟨S576x576x2, .i32⟩
  | .hbm, ⟨15, _⟩ => ⟨S576x576x1, .i32⟩
  | .hbm, ⟨16, _⟩ => ⟨S576x576, .i32⟩
  | .hbm, ⟨17, _⟩ => ⟨S_, .i32⟩
  | .hbm, ⟨18, _⟩ => ⟨S576x576, .i32⟩
  | .hbm, ⟨19, _⟩ => ⟨S576x576, .i32⟩
  | .hbm, ⟨20, _⟩ => ⟨S_, .i32⟩
  | .hbm, ⟨21, _⟩ => ⟨S576x576, .i32⟩
  | .hbm, ⟨22, _⟩ => ⟨S576x576, .i32⟩
  | .hbm, ⟨23, _⟩ => ⟨S576x576x1, .i32⟩
  | .hbm, ⟨24, _⟩ => ⟨S576x576, .i32⟩
  | .hbm, ⟨25, _⟩ => ⟨S_, .i32⟩
  | .hbm, ⟨26, _⟩ => ⟨S576x576, .i32⟩
  | .hbm, ⟨27, _⟩ => ⟨S576x576, .i32⟩
  | .hbm, ⟨28, _⟩ => ⟨S_, .i32⟩
  | .hbm, ⟨29, _⟩ => ⟨S576x576, .i32⟩
  | .hbm, ⟨30, _⟩ => ⟨S576x576, .i32⟩
  | .hbm, ⟨31, _⟩ => ⟨S_, .i32⟩
  | .hbm, ⟨32, _⟩ => ⟨S576x576, .i32⟩
  | .hbm, ⟨33, _⟩ => ⟨S576x576, .i32⟩
  | .hbm, ⟨34, _⟩ => ⟨S576x576x1, .i32⟩
  | .hbm, ⟨35, _⟩ => ⟨S576x576x1, .i32⟩
  | .hbm, ⟨36, _⟩ => ⟨S576x576x2, .i32⟩
  | .hbm, ⟨37, _⟩ => ⟨S_, .i32⟩
  | .hbm, ⟨38, _⟩ => ⟨S576x576, .i32⟩
  | .hbm, ⟨39, _⟩ => ⟨S_, .i32⟩
  | .hbm, ⟨40, _⟩ => ⟨S1x576, .i32⟩
  | .hbm, ⟨41, _⟩ => ⟨S_, .i32⟩
  | .hbm, ⟨42, _⟩ => ⟨S576x1, .i32⟩
  | .hbm, ⟨43, _⟩ => ⟨S_, .i32⟩
  | .hbm, ⟨44, _⟩ => ⟨S1x1, .i32⟩
  | .hbm, ⟨45, _⟩ => ⟨S577x1, .i32⟩
  | .hbm, ⟨46, _⟩ => ⟨S577x576, .i32⟩
  | .hbm, ⟨47, _⟩ => ⟨S577x577, .i32⟩
  | .hbm, ⟨48, _⟩ => ⟨S332929, .i32⟩
  | .hbm, ⟨49, _⟩ => ⟨S_, .i32⟩
  | .hbm, ⟨50, _⟩ => ⟨S_, .i32⟩
  | .hbm, ⟨51, _⟩ => ⟨S333824, .i32⟩
  | .hbm, ⟨52, _⟩ => ⟨S35392, .f32⟩
  | .hbm, ⟨53, _⟩ => ⟨S5341184, .f32⟩
  | .hbm, ⟨54, _⟩ => ⟨S16x333824, .f32⟩
  | .hbm, ⟨55, _⟩ => ⟨S4x16x332929, .f32⟩
  | .hbm, ⟨56, _⟩ => ⟨S4x16x332929, .f32⟩
  | .hbm, ⟨57, _⟩ => ⟨S4x16x577x577, .f32⟩
  | .local .tc .vmem, ⟨0, _⟩ => ⟨S1x16x16384, .f32⟩
  | .local .tc .vmem, ⟨1, _⟩ => ⟨S1x16x16384, .f32⟩
  | .local .tc .vmem, ⟨2, _⟩ => ⟨S16x16384, .f32⟩
  | .local .tc .vmem, ⟨3, _⟩ => ⟨S16x16384, .f32⟩
  | .local .tc .vmem, ⟨4, _⟩ => ⟨S1x16x16384, .f32⟩
  | .local .tc .vmem, ⟨5, _⟩ => ⟨S1x16x16384, .f32⟩
  | .local .scVector .vmem, ⟨0, _⟩ => ⟨S35392, .f32⟩
  | .local .scVector .vmem, ⟨1, _⟩ => ⟨S2608, .i32⟩
  | .local .scVector .vmem, ⟨2, _⟩ => ⟨S41728, .f32⟩
  | _, _ => ⟨S4x16x577x577, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 24 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => true
  | ⟨19, _⟩ => true
  | ⟨20, _⟩ => true
  | ⟨21, _⟩ => true
  | ⟨22, _⟩ => true
  | ⟨23, _⟩ => true
  | _ => false

abbrev sig : RefSig :=
  ofTables nBuf rfl bufTy 4 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_c : Ref sig .tc := ⟨.hbm, 17, rfl⟩
abbrev main_v15 : Ref sig .tc := ⟨.hbm, 18, rfl⟩
abbrev main_v16 : Ref sig .tc := ⟨.hbm, 19, rfl⟩
abbrev main_c_0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_c_1 : Ref sig .tc := ⟨.hbm, 25, rfl⟩
abbrev main_v21 : Ref sig .tc := ⟨.hbm, 26, rfl⟩
abbrev main_v22 : Ref sig .tc := ⟨.hbm, 27, rfl⟩
abbrev main_c_2 : Ref sig .tc := ⟨.hbm, 28, rfl⟩
abbrev main_v23 : Ref sig .tc := ⟨.hbm, 29, rfl⟩
abbrev main_v24 : Ref sig .tc := ⟨.hbm, 30, rfl⟩
abbrev main_c_3 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c_4 : Ref sig .tc := ⟨.hbm, 37, rfl⟩
abbrev main_v30 : Ref sig .tc := ⟨.hbm, 38, rfl⟩
abbrev main_c_5 : Ref sig .tc := ⟨.hbm, 39, rfl⟩
abbrev main_v31 : Ref sig .tc := ⟨.hbm, 40, rfl⟩
abbrev main_c_6 : Ref sig .tc := ⟨.hbm, 41, rfl⟩
abbrev main_v32 : Ref sig .tc := ⟨.hbm, 42, rfl⟩
abbrev main_c_7 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_8 : Ref sig .tc := ⟨.hbm, 49, rfl⟩
abbrev main_call0_v0 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v39_scv : Ref sig .scVector := ⟨.hbm, 52, rfl⟩
abbrev main_v38_scv : Ref sig .scVector := ⟨.hbm, 51, rfl⟩
abbrev main_v40_scv : Ref sig .scVector := ⟨.hbm, 53, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c4_i32 : BitVec 32 := 4#32
  let v3 : BitVec 32 := Scalar.addi c0_i32_0 c4_i32
  let c1_i32 : BitVec 32 := 1#32
  ⟨c0_i32_0, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10432_i32 : BitVec 32 := 10432#32
  let v2 : BitVec 32 := Scalar.muli v1 c10432_i32
  let c0_i32_0 : BitVec 32 := 0#32
  let c1_i32 : BitVec 32 := 1#32
  let arg8 : BitVec 32 := Scf.iv c0_i32_0 c1_i32 k0_t1
  let c2608_i32 : BitVec 32 := 2608#32
  let v4 : BitVec 32 := Scalar.muli arg8 c2608_i32
  let v5 : BitVec 32 := Scalar.addi v2 v4
  ![v5.toNat]
@[reducible] def k0_t2_loop : Scf.Loop 32 :=
  let c0_i32_3 : BitVec 32 := 0#32
  let c163_i32 : BitVec 32 := 163#32
  let v6 : BitVec 32 := Scalar.addi c0_i32_3 c163_i32
  let c1_i32_4 : BitVec 32 := 1#32
  ⟨c0_i32_3, v6, c1_i32_4⟩
def k0_off2 (k0_t2 : Fin k0_t2_loop.trips) : Fin 1 → Nat :=
  let c0_i32_3 : BitVec 32 := 0#32
  let c1_i32_4 : BitVec 32 := 1#32
  let arg9 : BitVec 32 := Scf.iv c0_i32_3 c1_i32_4 k0_t2
  let c16_i32 : BitVec 32 := 16#32
  let v23 : BitVec 32 := Scalar.muli arg9 c16_i32
  let v24 : Index := Scalar.indexCast v23
  ![v24.toNat]

def k0_chk1 (v27 : IVec S16 32) : Prop :=
  (∀ a x, ((![v27] : Fin 1 → IVec S16 32) a x).toNat < S35392.size a)
theorem k0_idx1_inb : ∀ (v27 : IVec S16 32) (k0_hw1 : k0_chk1 v27), ∀ a x, ((![v27] : Fin 1 → IVec S16 32) a x).toNat < S35392.size a := fun v27 k0_hw1 => k0_hw1
def k0_off3 (k0_t2 : Fin k0_t2_loop.trips) : Fin 1 → Nat :=
  let c0_i32_9 : BitVec 32 := 0#32
  let c0_i32_3 : BitVec 32 := 0#32
  let c1_i32_4 : BitVec 32 := 1#32
  let arg9 : BitVec 32 := Scf.iv c0_i32_3 c1_i32_4 k0_t2
  let c16_i32_8 : BitVec 32 := 16#32
  let v29 : BitVec 32 := Scalar.muli arg9 c16_i32_8
  let v30 : BitVec 32 := Scalar.addi c0_i32_9 v29
  let v31 : Index := Scalar.indexCast v30
  ![v31.toNat]

def k0_chk2 (v34 : IVec S16 32) : Prop :=
  (∀ a x, ((![v34] : Fin 1 → IVec S16 32) a x).toNat < S35392.size a)
theorem k0_idx2_inb : ∀ (v34 : IVec S16 32) (k0_hw2 : k0_chk2 v34), ∀ a x, ((![v34] : Fin 1 → IVec S16 32) a x).toNat < S35392.size a := fun v34 k0_hw2 => k0_hw2
def k0_off4 (k0_t2 : Fin k0_t2_loop.trips) : Fin 1 → Nat :=
  let c2608_i32_11 : BitVec 32 := 2608#32
  let c0_i32_3 : BitVec 32 := 0#32
  let c1_i32_4 : BitVec 32 := 1#32
  let arg9 : BitVec 32 := Scf.iv c0_i32_3 c1_i32_4 k0_t2
  let c16_i32_10 : BitVec 32 := 16#32
  let v36 : BitVec 32 := Scalar.muli arg9 c16_i32_10
  let v37 : BitVec 32 := Scalar.addi c2608_i32_11 v36
  let v38 : Index := Scalar.indexCast v37
  ![v38.toNat]

def k0_chk3 (v41 : IVec S16 32) : Prop :=
  (∀ a x, ((![v41] : Fin 1 → IVec S16 32) a x).toNat < S35392.size a)
theorem k0_idx3_inb : ∀ (v41 : IVec S16 32) (k0_hw3 : k0_chk3 v41), ∀ a x, ((![v41] : Fin 1 → IVec S16 32) a x).toNat < S35392.size a := fun v41 k0_hw3 => k0_hw3
def k0_off5 (k0_t2 : Fin k0_t2_loop.trips) : Fin 1 → Nat :=
  let c5216_i32 : BitVec 32 := 5216#32
  let c0_i32_3 : BitVec 32 := 0#32
  let c1_i32_4 : BitVec 32 := 1#32
  let arg9 : BitVec 32 := Scf.iv c0_i32_3 c1_i32_4 k0_t2
  let c16_i32_12 : BitVec 32 := 16#32
  let v43 : BitVec 32 := Scalar.muli arg9 c16_i32_12
  let v44 : BitVec 32 := Scalar.addi c5216_i32 v43
  let v45 : Index := Scalar.indexCast v44
  ![v45.toNat]

def k0_chk4 (v48 : IVec S16 32) : Prop :=
  (∀ a x, ((![v48] : Fin 1 → IVec S16 32) a x).toNat < S35392.size a)
theorem k0_idx4_inb : ∀ (v48 : IVec S16 32) (k0_hw4 : k0_chk4 v48), ∀ a x, ((![v48] : Fin 1 → IVec S16 32) a x).toNat < S35392.size a := fun v48 k0_hw4 => k0_hw4
def k0_off6 (k0_t2 : Fin k0_t2_loop.trips) : Fin 1 → Nat :=
  let c7824_i32 : BitVec 32 := 7824#32
  let c0_i32_3 : BitVec 32 := 0#32
  let c1_i32_4 : BitVec 32 := 1#32
  let arg9 : BitVec 32 := Scf.iv c0_i32_3 c1_i32_4 k0_t2
  let c16_i32_13 : BitVec 32 := 16#32
  let v50 : BitVec 32 := Scalar.muli arg9 c16_i32_13
  let v51 : BitVec 32 := Scalar.addi c7824_i32 v50
  let v52 : Index := Scalar.indexCast v51
  ![v52.toNat]

def k0_chk5 (v55 : IVec S16 32) : Prop :=
  (∀ a x, ((![v55] : Fin 1 → IVec S16 32) a x).toNat < S35392.size a)
theorem k0_idx5_inb : ∀ (v55 : IVec S16 32) (k0_hw5 : k0_chk5 v55), ∀ a x, ((![v55] : Fin 1 → IVec S16 32) a x).toNat < S35392.size a := fun v55 k0_hw5 => k0_hw5
def k0_off7 (k0_t2 : Fin k0_t2_loop.trips) : Fin 1 → Nat :=
  let c10432_i32_15 : BitVec 32 := 10432#32
  let c0_i32_3 : BitVec 32 := 0#32
  let c1_i32_4 : BitVec 32 := 1#32
  let arg9 : BitVec 32 := Scf.iv c0_i32_3 c1_i32_4 k0_t2
  let c16_i32_14 : BitVec 32 := 16#32
  let v57 : BitVec 32 := Scalar.muli arg9 c16_i32_14
  let v58 : BitVec 32 := Scalar.addi c10432_i32_15 v57
  let v59 : Index := Scalar.indexCast v58
  ![v59.toNat]

def k0_chk6 (v62 : IVec S16 32) : Prop :=
  (∀ a x, ((![v62] : Fin 1 → IVec S16 32) a x).toNat < S35392.size a)
theorem k0_idx6_inb : ∀ (v62 : IVec S16 32) (k0_hw6 : k0_chk6 v62), ∀ a x, ((![v62] : Fin 1 → IVec S16 32) a x).toNat < S35392.size a := fun v62 k0_hw6 => k0_hw6
def k0_off8 (k0_t2 : Fin k0_t2_loop.trips) : Fin 1 → Nat :=
  let c13040_i32 : BitVec 32 := 13040#32
  let c0_i32_3 : BitVec 32 := 0#32
  let c1_i32_4 : BitVec 32 := 1#32
  let arg9 : BitVec 32 := Scf.iv c0_i32_3 c1_i32_4 k0_t2
  let c16_i32_16 : BitVec 32 := 16#32
  let v64 : BitVec 32 := Scalar.muli arg9 c16_i32_16
  let v65 : BitVec 32 := Scalar.addi c13040_i32 v64
  let v66 : Index := Scalar.indexCast v65
  ![v66.toNat]

def k0_chk7 (v69 : IVec S16 32) : Prop :=
  (∀ a x, ((![v69] : Fin 1 → IVec S16 32) a x).toNat < S35392.size a)
theorem k0_idx7_inb : ∀ (v69 : IVec S16 32) (k0_hw7 : k0_chk7 v69), ∀ a x, ((![v69] : Fin 1 → IVec S16 32) a x).toNat < S35392.size a := fun v69 k0_hw7 => k0_hw7
def k0_off9 (k0_t2 : Fin k0_t2_loop.trips) : Fin 1 → Nat :=
  let c15648_i32 : BitVec 32 := 15648#32
  let c0_i32_3 : BitVec 32 := 0#32
  let c1_i32_4 : BitVec 32 := 1#32
  let arg9 : BitVec 32 := Scf.iv c0_i32_3 c1_i32_4 k0_t2
  let c16_i32_17 : BitVec 32 := 16#32
  let v71 : BitVec 32 := Scalar.muli arg9 c16_i32_17
  let v72 : BitVec 32 := Scalar.addi c15648_i32 v71
  let v73 : Index := Scalar.indexCast v72
  ![v73.toNat]

def k0_chk8 (v76 : IVec S16 32) : Prop :=
  (∀ a x, ((![v76] : Fin 1 → IVec S16 32) a x).toNat < S35392.size a)
theorem k0_idx8_inb : ∀ (v76 : IVec S16 32) (k0_hw8 : k0_chk8 v76), ∀ a x, ((![v76] : Fin 1 → IVec S16 32) a x).toNat < S35392.size a := fun v76 k0_hw8 => k0_hw8
def k0_off10 (k0_t2 : Fin k0_t2_loop.trips) : Fin 1 → Nat :=
  let c18256_i32 : BitVec 32 := 18256#32
  let c0_i32_3 : BitVec 32 := 0#32
  let c1_i32_4 : BitVec 32 := 1#32
  let arg9 : BitVec 32 := Scf.iv c0_i32_3 c1_i32_4 k0_t2
  let c16_i32_18 : BitVec 32 := 16#32
  let v78 : BitVec 32 := Scalar.muli arg9 c16_i32_18
  let v79 : BitVec 32 := Scalar.addi c18256_i32 v78
  let v80 : Index := Scalar.indexCast v79
  ![v80.toNat]

def k0_chk9 (v83 : IVec S16 32) : Prop :=
  (∀ a x, ((![v83] : Fin 1 → IVec S16 32) a x).toNat < S35392.size a)
theorem k0_idx9_inb : ∀ (v83 : IVec S16 32) (k0_hw9 : k0_chk9 v83), ∀ a x, ((![v83] : Fin 1 → IVec S16 32) a x).toNat < S35392.size a := fun v83 k0_hw9 => k0_hw9
def k0_off11 (k0_t2 : Fin k0_t2_loop.trips) : Fin 1 → Nat :=
  let c20864_i32 : BitVec 32 := 20864#32
  let c0_i32_3 : BitVec 32 := 0#32
  let c1_i32_4 : BitVec 32 := 1#32
  let arg9 : BitVec 32 := Scf.iv c0_i32_3 c1_i32_4 k0_t2
  let c16_i32_19 : BitVec 32 := 16#32
  let v85 : BitVec 32 := Scalar.muli arg9 c16_i32_19
  let v86 : BitVec 32 := Scalar.addi c20864_i32 v85
  let v87 : Index := Scalar.indexCast v86
  ![v87.toNat]

def k0_chk10 (v90 : IVec S16 32) : Prop :=
  (∀ a x, ((![v90] : Fin 1 → IVec S16 32) a x).toNat < S35392.size a)
theorem k0_idx10_inb : ∀ (v90 : IVec S16 32) (k0_hw10 : k0_chk10 v90), ∀ a x, ((![v90] : Fin 1 → IVec S16 32) a x).toNat < S35392.size a := fun v90 k0_hw10 => k0_hw10
def k0_off12 (k0_t2 : Fin k0_t2_loop.trips) : Fin 1 → Nat :=
  let c23472_i32 : BitVec 32 := 23472#32
  let c0_i32_3 : BitVec 32 := 0#32
  let c1_i32_4 : BitVec 32 := 1#32
  let arg9 : BitVec 32 := Scf.iv c0_i32_3 c1_i32_4 k0_t2
  let c16_i32_20 : BitVec 32 := 16#32
  let v92 : BitVec 32 := Scalar.muli arg9 c16_i32_20
  let v93 : BitVec 32 := Scalar.addi c23472_i32 v92
  let v94 : Index := Scalar.indexCast v93
  ![v94.toNat]

def k0_chk11 (v97 : IVec S16 32) : Prop :=
  (∀ a x, ((![v97] : Fin 1 → IVec S16 32) a x).toNat < S35392.size a)
theorem k0_idx11_inb : ∀ (v97 : IVec S16 32) (k0_hw11 : k0_chk11 v97), ∀ a x, ((![v97] : Fin 1 → IVec S16 32) a x).toNat < S35392.size a := fun v97 k0_hw11 => k0_hw11
def k0_off13 (k0_t2 : Fin k0_t2_loop.trips) : Fin 1 → Nat :=
  let c26080_i32 : BitVec 32 := 26080#32
  let c0_i32_3 : BitVec 32 := 0#32
  let c1_i32_4 : BitVec 32 := 1#32
  let arg9 : BitVec 32 := Scf.iv c0_i32_3 c1_i32_4 k0_t2
  let c16_i32_21 : BitVec 32 := 16#32
  let v99 : BitVec 32 := Scalar.muli arg9 c16_i32_21
  let v100 : BitVec 32 := Scalar.addi c26080_i32 v99
  let v101 : Index := Scalar.indexCast v100
  ![v101.toNat]

def k0_chk12 (v104 : IVec S16 32) : Prop :=
  (∀ a x, ((![v104] : Fin 1 → IVec S16 32) a x).toNat < S35392.size a)
theorem k0_idx12_inb : ∀ (v104 : IVec S16 32) (k0_hw12 : k0_chk12 v104), ∀ a x, ((![v104] : Fin 1 → IVec S16 32) a x).toNat < S35392.size a := fun v104 k0_hw12 => k0_hw12
def k0_off14 (k0_t2 : Fin k0_t2_loop.trips) : Fin 1 → Nat :=
  let c28688_i32 : BitVec 32 := 28688#32
  let c0_i32_3 : BitVec 32 := 0#32
  let c1_i32_4 : BitVec 32 := 1#32
  let arg9 : BitVec 32 := Scf.iv c0_i32_3 c1_i32_4 k0_t2
  let c16_i32_22 : BitVec 32 := 16#32
  let v106 : BitVec 32 := Scalar.muli arg9 c16_i32_22
  let v107 : BitVec 32 := Scalar.addi c28688_i32 v106
  let v108 : Index := Scalar.indexCast v107
  ![v108.toNat]

def k0_chk13 (v111 : IVec S16 32) : Prop :=
  (∀ a x, ((![v111] : Fin 1 → IVec S16 32) a x).toNat < S35392.size a)
theorem k0_idx13_inb : ∀ (v111 : IVec S16 32) (k0_hw13 : k0_chk13 v111), ∀ a x, ((![v111] : Fin 1 → IVec S16 32) a x).toNat < S35392.size a := fun v111 k0_hw13 => k0_hw13
def k0_off15 (k0_t2 : Fin k0_t2_loop.trips) : Fin 1 → Nat :=
  let c31296_i32 : BitVec 32 := 31296#32
  let c0_i32_3 : BitVec 32 := 0#32
  let c1_i32_4 : BitVec 32 := 1#32
  let arg9 : BitVec 32 := Scf.iv c0_i32_3 c1_i32_4 k0_t2
  let c16_i32_23 : BitVec 32 := 16#32
  let v113 : BitVec 32 := Scalar.muli arg9 c16_i32_23
  let v114 : BitVec 32 := Scalar.addi c31296_i32 v113
  let v115 : Index := Scalar.indexCast v114
  ![v115.toNat]

def k0_chk14 (v118 : IVec S16 32) : Prop :=
  (∀ a x, ((![v118] : Fin 1 → IVec S16 32) a x).toNat < S35392.size a)
theorem k0_idx14_inb : ∀ (v118 : IVec S16 32) (k0_hw14 : k0_chk14 v118), ∀ a x, ((![v118] : Fin 1 → IVec S16 32) a x).toNat < S35392.size a := fun v118 k0_hw14 => k0_hw14
def k0_off16 (k0_t2 : Fin k0_t2_loop.trips) : Fin 1 → Nat :=
  let c33904_i32 : BitVec 32 := 33904#32
  let c0_i32_3 : BitVec 32 := 0#32
  let c1_i32_4 : BitVec 32 := 1#32
  let arg9 : BitVec 32 := Scf.iv c0_i32_3 c1_i32_4 k0_t2
  let c16_i32_24 : BitVec 32 := 16#32
  let v120 : BitVec 32 := Scalar.muli arg9 c16_i32_24
  let v121 : BitVec 32 := Scalar.addi c33904_i32 v120
  let v122 : Index := Scalar.indexCast v121
  ![v122.toNat]

def k0_chk15 (v125 : IVec S16 32) : Prop :=
  (∀ a x, ((![v125] : Fin 1 → IVec S16 32) a x).toNat < S35392.size a)
theorem k0_idx15_inb : ∀ (v125 : IVec S16 32) (k0_hw15 : k0_chk15 v125), ∀ a x, ((![v125] : Fin 1 → IVec S16 32) a x).toNat < S35392.size a := fun v125 k0_hw15 => k0_hw15
def k0_off17 (k0_t2 : Fin k0_t2_loop.trips) : Fin 1 → Nat :=
  let c36512_i32 : BitVec 32 := 36512#32
  let c0_i32_3 : BitVec 32 := 0#32
  let c1_i32_4 : BitVec 32 := 1#32
  let arg9 : BitVec 32 := Scf.iv c0_i32_3 c1_i32_4 k0_t2
  let c16_i32_25 : BitVec 32 := 16#32
  let v127 : BitVec 32 := Scalar.muli arg9 c16_i32_25
  let v128 : BitVec 32 := Scalar.addi c36512_i32 v127
  let v129 : Index := Scalar.indexCast v128
  ![v129.toNat]

def k0_chk16 (v132 : IVec S16 32) : Prop :=
  (∀ a x, ((![v132] : Fin 1 → IVec S16 32) a x).toNat < S35392.size a)
theorem k0_idx16_inb : ∀ (v132 : IVec S16 32) (k0_hw16 : k0_chk16 v132), ∀ a x, ((![v132] : Fin 1 → IVec S16 32) a x).toNat < S35392.size a := fun v132 k0_hw16 => k0_hw16
def k0_off18 (k0_t2 : Fin k0_t2_loop.trips) : Fin 1 → Nat :=
  let c39120_i32 : BitVec 32 := 39120#32
  let c0_i32_3 : BitVec 32 := 0#32
  let c1_i32_4 : BitVec 32 := 1#32
  let arg9 : BitVec 32 := Scf.iv c0_i32_3 c1_i32_4 k0_t2
  let c16_i32_26 : BitVec 32 := 16#32
  let v134 : BitVec 32 := Scalar.muli arg9 c16_i32_26
  let v135 : BitVec 32 := Scalar.addi c39120_i32 v134
  let v136 : Index := Scalar.indexCast v135
  ![v136.toNat]
def k0_off19 (i : grid0.Coords) (k0_t1 : Fin k0_t1_loop.trips) (c0_i32_6 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10432_i32 : BitVec 32 := 10432#32
  let v2 : BitVec 32 := Scalar.muli v1 c10432_i32
  let c0_i32_0 : BitVec 32 := 0#32
  let c1_i32 : BitVec 32 := 1#32
  let arg8 : BitVec 32 := Scf.iv c0_i32_0 c1_i32 k0_t1
  let c2608_i32 : BitVec 32 := 2608#32
  let v4 : BitVec 32 := Scalar.muli arg8 c2608_i32
  let v5 : BitVec 32 := Scalar.addi v2 v4
  let v7 : BitVec 32 := Scalar.addi c0_i32_6 v5
  ![v7.toNat]
abbrev grid1 : Pipeline.Grid := ⟨2, ![21, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage1_0 : Fin 2 → Memref sig .tc .vmem S1x16x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S16x16384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x16x16384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x16x577x577 : Shape := ⟨4, ![4, 16, 577, 577]⟩
abbrev S16x2212 : Shape := ⟨2, ![16, 2212]⟩
abbrev S24 : Shape := ⟨1, ![24]⟩
abbrev S24x24 : Shape := ⟨2, ![24, 24]⟩
abbrev S24x24x1 : Shape := ⟨3, ![24, 24, 1]⟩
abbrev S24x24x2 : Shape := ⟨3, ![24, 24, 2]⟩
abbrev S576x2 : Shape := ⟨2, ![576, 2]⟩
abbrev S576x1x2 : Shape := ⟨3, ![576, 1, 2]⟩
abbrev S1x576x2 : Shape := ⟨3, ![1, 576, 2]⟩
abbrev S576x576x2 : Shape := ⟨3, ![576, 576, 2]⟩
abbrev S576x576x1 : Shape := ⟨3, ![576, 576, 1]⟩
abbrev S576x576 : Shape := ⟨2, ![576, 576]⟩
abbrev S_ : Shape := ⟨0, ![]⟩
abbrev S1x576 : Shape := ⟨2, ![1, 576]⟩
abbrev S576x1 : Shape := ⟨2, ![576, 1]⟩
abbrev S1x1 : Shape := ⟨2, ![1, 1]⟩
abbrev S577x1 : Shape := ⟨2, ![577, 1]⟩
abbrev S577x576 : Shape := ⟨2, ![577, 576]⟩
abbrev S577x577 : Shape := ⟨2, ![577, 577]⟩
abbrev S577x577x1 : Shape := ⟨3, ![577, 577, 1]⟩
abbrev S1 : Shape := ⟨1, ![1]⟩
abbrev S1x1x1 : Shape := ⟨3, ![1, 1, 1]⟩
abbrev S16x577x577 : Shape := ⟨3, ![16, 577, 577]⟩
abbrev S1x16x577x577 : Shape := ⟨4, ![1, 16, 577, 577]⟩

abbrev nBuf : Space → Nat
  | .hbm => 74
  | .vmem => 0
  | .smem => 0
  | _ => 0

abbrev bufTy : (tb : Table) → Fin (tcTables nBuf tb) → BufTy
  | .hbm, ⟨0, _⟩ => ⟨S4x16x577x577, .f32⟩
  | .hbm, ⟨1, _⟩ => ⟨S16x2212, .f32⟩
  | .hbm, ⟨2, _⟩ => ⟨S24, .i32⟩
  | .hbm, ⟨3, _⟩ => ⟨S24, .i32⟩
  | .hbm, ⟨4, _⟩ => ⟨S24x24, .i32⟩
  | .hbm, ⟨5, _⟩ => ⟨S24x24, .i32⟩
  | .hbm, ⟨6, _⟩ => ⟨S24x24x1, .i32⟩
  | .hbm, ⟨7, _⟩ => ⟨S24x24x1, .i32⟩
  | .hbm, ⟨8, _⟩ => ⟨S24x24x2, .i32⟩
  | .hbm, ⟨9, _⟩ => ⟨S576x2, .i32⟩
  | .hbm, ⟨10, _⟩ => ⟨S576x1x2, .i32⟩
  | .hbm, ⟨11, _⟩ => ⟨S1x576x2, .i32⟩
  | .hbm, ⟨12, _⟩ => ⟨S576x576x2, .i32⟩
  | .hbm, ⟨13, _⟩ => ⟨S576x576x2, .i32⟩
  | .hbm, ⟨14, _⟩ => ⟨S576x576x2, .i32⟩
  | .hbm, ⟨15, _⟩ => ⟨S576x576x1, .i32⟩
  | .hbm, ⟨16, _⟩ => ⟨S576x576, .i32⟩
  | .hbm, ⟨17, _⟩ => ⟨S_, .i32⟩
  | .hbm, ⟨18, _⟩ => ⟨S576x576, .i32⟩
  | .hbm, ⟨19, _⟩ => ⟨S576x576, .i32⟩
  | .hbm, ⟨20, _⟩ => ⟨S_, .i32⟩
  | .hbm, ⟨21, _⟩ => ⟨S576x576, .i32⟩
  | .hbm, ⟨22, _⟩ => ⟨S576x576, .i32⟩
  | .hbm, ⟨23, _⟩ => ⟨S576x576x1, .i32⟩
  | .hbm, ⟨24, _⟩ => ⟨S576x576, .i32⟩
  | .hbm, ⟨25, _⟩ => ⟨S_, .i32⟩
  | .hbm, ⟨26, _⟩ => ⟨S576x576, .i32⟩
  | .hbm, ⟨27, _⟩ => ⟨S576x576, .i32⟩
  | .hbm, ⟨28, _⟩ => ⟨S_, .i32⟩
  | .hbm, ⟨29, _⟩ => ⟨S576x576, .i32⟩
  | .hbm, ⟨30, _⟩ => ⟨S576x576, .i32⟩
  | .hbm, ⟨31, _⟩ => ⟨S_, .i32⟩
  | .hbm, ⟨32, _⟩ => ⟨S576x576, .i32⟩
  | .hbm, ⟨33, _⟩ => ⟨S576x576, .i32⟩
  | .hbm, ⟨34, _⟩ => ⟨S576x576x1, .i32⟩
  | .hbm, ⟨35, _⟩ => ⟨S576x576x1, .i32⟩
  | .hbm, ⟨36, _⟩ => ⟨S576x576x2, .i32⟩
  | .hbm, ⟨37, _⟩ => ⟨S_, .i32⟩
  | .hbm, ⟨38, _⟩ => ⟨S576x576, .i32⟩
  | .hbm, ⟨39, _⟩ => ⟨S_, .i32⟩
  | .hbm, ⟨40, _⟩ => ⟨S1x576, .i32⟩
  | .hbm, ⟨41, _⟩ => ⟨S_, .i32⟩
  | .hbm, ⟨42, _⟩ => ⟨S576x1, .i32⟩
  | .hbm, ⟨43, _⟩ => ⟨S_, .i32⟩
  | .hbm, ⟨44, _⟩ => ⟨S1x1, .i32⟩
  | .hbm, ⟨45, _⟩ => ⟨S577x1, .i32⟩
  | .hbm, ⟨46, _⟩ => ⟨S577x576, .i32⟩
  | .hbm, ⟨47, _⟩ => ⟨S577x577, .i32⟩
  | .hbm, ⟨48, _⟩ => ⟨S_, .i32⟩
  | .hbm, ⟨49, _⟩ => ⟨S577x577, .i32⟩
  | .hbm, ⟨50, _⟩ => ⟨S577x577, .i1⟩
  | .hbm, ⟨51, _⟩ => ⟨S_, .i32⟩
  | .hbm, ⟨52, _⟩ => ⟨S577x577, .i32⟩
  | .hbm, ⟨53, _⟩ => ⟨S577x577, .i32⟩
  | .hbm, ⟨54, _⟩ => ⟨S577x577, .i32⟩
  | .hbm, ⟨55, _⟩ => ⟨S577x577x1, .i32⟩
  | .hbm, ⟨56, _⟩ => ⟨S1, .i32⟩
  | .hbm, ⟨57, _⟩ => ⟨S_, .i32⟩
  | .hbm, ⟨58, _⟩ => ⟨S577x577x1, .i32⟩
  | .hbm, ⟨59, _⟩ => ⟨S577x577x1, .i1⟩
  | .hbm, ⟨60, _⟩ => ⟨S1x1x1, .i32⟩
  | .hbm, ⟨61, _⟩ => ⟨S577x577x1, .i32⟩
  | .hbm, ⟨62, _⟩ => ⟨S577x577x1, .i1⟩
  | .hbm, ⟨63, _⟩ => ⟨S577x577x1, .i1⟩
  | .hbm, ⟨64, _⟩ => ⟨S_, .i1⟩
  | .hbm, ⟨65, _⟩ => ⟨S577x577, .i1⟩
  | .hbm, ⟨66, _⟩ => ⟨S16x577x577, .f32⟩
  | .hbm, ⟨67, _⟩ => ⟨S16x577x577, .i1⟩
  | .hbm, ⟨68, _⟩ => ⟨S_, .f32⟩
  | .hbm, ⟨69, _⟩ => ⟨S16x577x577, .f32⟩
  | .hbm, ⟨70, _⟩ => ⟨S16x577x577, .f32⟩
  | .hbm, ⟨71, _⟩ => ⟨S1x16x577x577, .f32⟩
  | .hbm, ⟨72, _⟩ => ⟨S4x16x577x577, .f32⟩
  | .hbm, ⟨73, _⟩ => ⟨S4x16x577x577, .f32⟩
  | _, _ => ⟨S4x16x577x577, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_c : Ref sig .tc := ⟨.hbm, 17, rfl⟩
abbrev main_v15 : Ref sig .tc := ⟨.hbm, 18, rfl⟩
abbrev main_v16 : Ref sig .tc := ⟨.hbm, 19, rfl⟩
abbrev main_c_0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_c_1 : Ref sig .tc := ⟨.hbm, 25, rfl⟩
abbrev main_v21 : Ref sig .tc := ⟨.hbm, 26, rfl⟩
abbrev main_v22 : Ref sig .tc := ⟨.hbm, 27, rfl⟩
abbrev main_c_2 : Ref sig .tc := ⟨.hbm, 28, rfl⟩
abbrev main_v23 : Ref sig .tc := ⟨.hbm, 29, rfl⟩
abbrev main_v24 : Ref sig .tc := ⟨.hbm, 30, rfl⟩
abbrev main_c_3 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c_4 : Ref sig .tc := ⟨.hbm, 37, rfl⟩
abbrev main_v30 : Ref sig .tc := ⟨.hbm, 38, rfl⟩
abbrev main_c_5 : Ref sig .tc := ⟨.hbm, 39, rfl⟩
abbrev main_v31 : Ref sig .tc := ⟨.hbm, 40, rfl⟩
abbrev main_c_6 : Ref sig .tc := ⟨.hbm, 41, rfl⟩
abbrev main_v32 : Ref sig .tc := ⟨.hbm, 42, rfl⟩
abbrev main_c_7 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_call0_c : Ref sig .tc := ⟨.hbm, 48, rfl⟩
abbrev main_call0_v0 : Ref sig .tc := ⟨.hbm, 49, rfl⟩
abbrev main_call0_v1 : Ref sig .tc := ⟨.hbm, 50, rfl⟩
abbrev main_call0_c_0 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_c_1 : Ref sig .tc := ⟨.hbm, 56, rfl⟩
abbrev main_call0_c_2 : Ref sig .tc := ⟨.hbm, 57, rfl⟩
abbrev main_call0_v6 : Ref sig .tc := ⟨.hbm, 58, rfl⟩
abbrev main_call0_v7 : Ref sig .tc := ⟨.hbm, 59, rfl⟩
abbrev main_call0_v8 : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_call0_c_3 : Ref sig .tc := ⟨.hbm, 64, rfl⟩
abbrev main_call0_v12 : Ref sig .tc := ⟨.hbm, 65, rfl⟩
abbrev main_call0_v13 : Ref sig .tc := ⟨.hbm, 66, rfl⟩
abbrev main_call0_v14 : Ref sig .tc := ⟨.hbm, 67, rfl⟩
abbrev main_call0_cst : Ref sig .tc := ⟨.hbm, 68, rfl⟩
abbrev main_call0_v15 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩

abbrev nD : Nat := 1
abbrev τ : Topo := Topo.v7x

variable {F : FTy → Type} [FloatOps F]
-- ==== Proof.Indices.lean ====
/-
  The index table, as the programs compute it: entry (q, p) of a 577 by 577 table is the row number of the bias table that the pair
  of positions q and p selects. The programs build it from counts along 24 rows and 24 columns; here it is built once, in the
  operations they all use, and shown to hold row numbers of a table of 2212 rows.
-/
module

public import Idealize.ShloMosaic.PureOps
public import Idealize.ShloMosaic.Lib.Pipeline.Value
public import Idealize.ShloMosaic.Lib.Pointwise.SelectCore
public import Idealize.ShloMosaic.Lib.KernelVsHost
public import Idealize.ShloMosaic.PureOps.Reduce

@[expose] public section

noncomputable section

namespace Cert.Proof.Indices

open Idealize.ShloMosaic

abbrev Scalar0 : Shape := ⟨0, ![]⟩
abbrev Side : Shape := ⟨1, ![24]⟩
abbrev Grid : Shape := ⟨2, ![24, 24]⟩
abbrev Grid1 : Shape := ⟨3, ![24, 24, 1]⟩
abbrev Grid2 : Shape := ⟨3, ![24, 24, 2]⟩
abbrev Places : Shape := ⟨2, ![576, 2]⟩
abbrev Column : Shape := ⟨3, ![576, 1, 2]⟩
abbrev Row : Shape := ⟨3, ![1, 576, 2]⟩
abbrev Pairs2 : Shape := ⟨3, ![576, 576, 2]⟩
abbrev Pairs1 : Shape := ⟨3, ![576, 576, 1]⟩
abbrev Pairs : Shape := ⟨2, ![576, 576]⟩
abbrev Table : Shape := ⟨2, ![577, 577]⟩
abbrev Line : Shape := ⟨1, ![332929]⟩
abbrev Padded : Shape := ⟨1, ![333824]⟩

/-- Two arrays put together along one axis. -/
def beside (t : Shape) (a : Fin t.rank) (s₁ s₂ : Shape) (h : Shape.Concatenates [s₁, s₂] t a) (x : IVec s₁ 32) (y : IVec s₂ 32) : IVec t 32 :=
  concatenate t a [⟨s₁, x⟩, ⟨s₂, y⟩] h

/-! ## The table, step by step -/

/-- The same number everywhere. -/
abbrev all (t : Shape) (n : BitVec 32) (h : Scalar0.BroadcastsInDim t ![] := by decide) : IVec t 32 :=
  broadcastInDim t ![] h (constantI Scalar0 32 n)

/-- The column of each place of a grid, -/
def across : IVec Grid1 32 := broadcastInDim Grid1 ![0, 1] (by decide) (broadcastInDim Grid ![1] (by decide) (iotaInDim Side 32 0))

/-- and its row. -/
def down : IVec Grid1 32 := broadcastInDim Grid1 ![0, 1] (by decide) (broadcastInDim Grid ![0] (by decide) (iotaInDim Side 32 0))

/-- The two of each of the 576 places. -/
def places : IVec Places 32 :=
  shapeCast Places (concatenate Grid2 2 [⟨Grid1, across⟩, ⟨Grid1, down⟩] (by decide)) (by decide)

/-- How far apart two places are, along each of the two directions. -/
def apart : IVec Pairs2 32 :=
  subi (broadcastInDim Pairs2 ![0, 1, 2] (by decide) (broadcastInDim Column ![0, 2] (by decide) places))
    (broadcastInDim Pairs2 ![0, 1, 2] (by decide) (broadcastInDim Row ![1, 2] (by decide) places))

/-- The distance along the first direction, counted from zero, -/
def first : IVec Pairs 32 :=
  subi (addi (shapeCast Pairs (extractStridedSlice Pairs1 ![0, 0, 0] apart (by decide)) (by decide)) (all Pairs 24#32))
    (all Pairs 1#32)

/-- and along the second, in rows of 47. -/
def second : IVec Pairs 32 :=
  muli (subi (addi (shapeCast Pairs (extractStridedSlice Pairs1 ![0, 0, 1] apart (by decide)) (by decide)) (all Pairs 24#32))
    (all Pairs 1#32)) (all Pairs 47#32)

/-- The two side by side, -/
def both : IVec Pairs2 32 :=
  concatenate Pairs2 2 [⟨Pairs1, broadcastInDim Pairs1 ![0, 1] (by decide) first⟩, ⟨Pairs1, broadcastInDim Pairs1 ![0, 1] (by decide) second⟩]
    (by decide)

/-- and added. -/
def among : IVec Pairs 32 :=
  Host.reduce IntOp.addi both (constantI Scalar0 32 0#32) (show Pairs2.ReducesTo [2] Pairs by decide) (by decide)

/-- The whole table: the first position is no place of the grid, and has row numbers of its own. -/
def rpi : IVec Table 32 :=
  concatenate Table 1
    [⟨⟨2, ![577, 1]⟩, concatenate ⟨2, ![577, 1]⟩ 0 [⟨⟨2, ![1, 1]⟩, all ⟨2, ![1, 1]⟩ 2211#32⟩, ⟨⟨2, ![576, 1]⟩, all ⟨2, ![576, 1]⟩ 2210#32⟩]
        (by decide)⟩,
      ⟨⟨2, ![577, 576]⟩, concatenate ⟨2, ![577, 576]⟩ 0 [⟨⟨2, ![1, 576]⟩, all ⟨2, ![1, 576]⟩ 2209#32⟩, ⟨Pairs, among⟩] (by decide)⟩]
    (by decide)

/-- The table in row-major order, zeros after it. -/
def padded : IVec Padded 32 := pad Padded ![0] ![895] ![0] (shapeCast Line rpi (by decide)) (constantI Scalar0 32 0#32)

/-! ## Its entries are row numbers of the bias table -/

/-- What every entry of two pieces satisfies, every entry of the two put together does. -/
theorem joined {P : BitVec 32 → Prop} {t s₁ s₂ : Shape} {a : Fin t.rank} {x : IVec s₁ 32} {y : IVec s₂ 32}
    {h : Shape.Concatenates [s₁, s₂] t a} (hx : ∀ i, P (x i)) (hy : ∀ i, P (y i)) (j : t.Idx) :
    P (concatenate t a [⟨s₁, x⟩, ⟨s₂, y⟩] h j) :=
  concatenate_forall t a [⟨s₁, x⟩, ⟨s₂, y⟩] h (fun p hp => by
    rcases List.mem_cons.1 hp with rfl | hp
    · exact hx
    · rw [List.mem_singleton.1 hp]; exact hy) j

theorem side_lt (i : Side.Idx) : (iotaInDim Side 32 0 i).toNat < 24 := by
  have h : (i 0).val < 24 := (i 0).isLt
  show (BitVec.ofNat 32 (i 0).val).toNat < 24
  rw [BitVec.toNat_ofNat]; omega

theorem across_lt (i : Grid1.Idx) : (across i).toNat < 24 := by unfold across broadcastInDim; exact side_lt _
theorem down_lt (i : Grid1.Idx) : (down i).toNat < 24 := by unfold down broadcastInDim; exact side_lt _
theorem places_lt (i : Places.Idx) : (places i).toNat < 24 := by
  unfold places shapeCast
  exact joined (P := fun w => w.toNat < 24) across_lt down_lt _

/-- Two places' difference, counted from zero. -/
theorem diff_lt {u v : BitVec 32} (hu : u.toNat < 24) (hv : v.toNat < 24) : (u - v + 24#32 - 1#32).toNat < 47 := by
  simp only [BitVec.toNat_sub, BitVec.toNat_add, BitVec.toNat_ofNat]
  omega

theorem apart_lt (i : Pairs2.Idx) : (apart i + 24#32 - 1#32).toNat < 47 := diff_lt (places_lt _) (places_lt _)

theorem first_lt (i : Pairs.Idx) : (first i).toNat < 47 := apart_lt _

theorem second_lt (i : Pairs.Idx) : (second i).toNat < 2163 := by
  have h : ∀ w : BitVec 32, w.toNat < 47 → (w * 47#32).toNat < 2163 := fun w hw => by
    rw [BitVec.toNat_mul, show (47#32).toNat = 47 from rfl]
    exact lt_of_le_of_lt (Nat.mod_le _ _) (by omega)
  exact h _ (apart_lt _)

/-- An entry of the two side by side. -/
def side (i : Pairs.Idx) (k : Fin 2) : Pairs2.Idx := fun
  | 0 => ⟨(i 0).val, (i 0).isLt⟩
  | 1 => ⟨(i 1).val, (i 1).isLt⟩
  | 2 => ⟨k.val, k.isLt⟩

/-- A pair with a last axis of one. -/
def pair1 (i : Pairs.Idx) : Pairs1.Idx := fun
  | 0 => ⟨(i 0).val, (i 0).isLt⟩
  | 1 => ⟨(i 1).val, (i 1).isLt⟩
  | 2 => ⟨0, Nat.one_pos⟩

theorem both_first (i : Pairs.Idx) : both (side i 0) = first i := by
  unfold both
  refine (concatenate_pair_apply_left (s₁ := Pairs1) (s₂ := Pairs1) (2 : Fin 3) _ _ _ (side i 0) rfl (pair1 i) fun b => by
    match b with | ⟨0, _⟩ => rfl | ⟨1, _⟩ => rfl | ⟨2, _⟩ => rfl).trans ?_
  exact broadcastInDim_apply _ _ _ (pair1 i) i fun b => by match b with | ⟨0, _⟩ => rfl | ⟨1, _⟩ => rfl

theorem both_second (i : Pairs.Idx) : both (side i 1) = second i := by
  unfold both
  refine (concatenate_pair_apply_right (s₁ := Pairs1) (s₂ := Pairs1) (2 : Fin 3) _ _ _ (side i 1) rfl rfl (pair1 i) (fun b hb => by
    match b, hb with
    | ⟨0, _⟩, _ => rfl
    | ⟨1, _⟩, _ => rfl
    | ⟨2, _⟩, hb => exact absurd rfl hb) rfl).trans ?_
  exact broadcastInDim_apply _ _ _ (pair1 i) i fun b => by match b with | ⟨0, _⟩ => rfl | ⟨1, _⟩ => rfl

theorem fold_two {α : Type} (f : α → α → α) [Std.Commutative f] [Std.Associative f] (b : α) (g : Fin 2 → α) :
    (Finset.univ : Finset (Fin 2)).fold f b g = f (g 0) (f (g 1) b) := by
  rw [show (Finset.univ : Finset (Fin 2)) = insert 0 {1} from rfl, Finset.fold_insert (by decide), Finset.fold_singleton]

theorem among_at (i : Pairs.Idx) : among i = first i + (second i + 0#32) := by
  unfold among
  have hr : Pairs2.Reduces [2] Pairs := by decide
  rw [Host.reduce_eq_fold_single IntOp.addi both _ _ hr]
  have h : ∀ k : Fin 2, hr.lift i k = side i k := fun k => by
    funext b
    refine Fin.ext ?_
    match b with | ⟨0, _⟩ => rfl | ⟨1, _⟩ => rfl | ⟨2, _⟩ => rfl
  refine (fold_two IntOp.addi 0#32 fun k : Fin 2 => both (hr.lift i k)).trans ?_
  rw [h, h, both_first, both_second]; rfl

theorem among_lt (i : Pairs.Idx) : (among i).toNat < 2209 := by
  have h1 := first_lt i
  have h2 := second_lt i
  rw [among_at]
  simp only [BitVec.toNat_add, BitVec.toNat_ofNat]
  omega

theorem rpi_lt (i : Table.Idx) : (rpi i).toNat < 2212 := by
  refine joined (P := fun w => w.toNat < 2212) (fun j => ?_) (fun j => ?_) i
  · refine joined (P := fun w => w.toNat < 2212) (fun _ => ?_) (fun _ => ?_) j
    · show (2211#32).toNat < 2212; decide
    · show (2210#32).toNat < 2212; decide
  · refine joined (P := fun w => w.toNat < 2212) (fun _ => ?_) (fun k => ?_) j
    · show (2209#32).toNat < 2212; decide
    · exact lt_trans (among_lt k) (by decide)

theorem padded_lt (k : Padded.Idx) : (padded k).toNat < 2212 := by
  unfold padded pad
  split
  · exact rpi_lt _
  · show (0#32).toNat < 2212; decide

/-! ## The row-major order -/

/-- The place of an entry of the table in row-major order. -/
def flat (i : Table.Idx) : Padded.Idx := fun
  | 0 => ⟨(i 0).val * 577 + (i 1).val, by
    have h0 : (i 0).val < 577 := (i 0).isLt
    have h1 : (i 1).val < 577 := (i 1).isLt
    show (i 0).val * 577 + (i 1).val < 333824
    omega⟩

theorem padded_at (i : Table.Idx) : padded (flat i) = rpi i := by
  have h0 : (i 0).val < 577 := (i 0).isLt
  have h1 : (i 1).val < 577 := (i 1).isLt
  let k : Line.Idx := fun
    | 0 => ⟨(i 0).val * 577 + (i 1).val, by show (i 0).val * 577 + (i 1).val < 332929; omega⟩
  unfold padded
  refine (pad_apply_of_inside _ _ _ _ _ _ _ (flat i) k fun a => by
    match a with
    | ⟨0, _⟩ => show (i 0).val * 577 + (i 1).val = 0 + ((i 0).val * 577 + (i 1).val) * (0 + 1); omega).trans ?_
  refine shapeCast_apply _ _ _ _ ?_
  exact (Shape.rowMajor_val_two (d := ![577, 577]) i).trans (Shape.rowMajor_val_one (d := ![332929]) k).symm

end Cert.Proof.Indices

end
-- ==== Proof.KernelIdealBase.lean ====
/-
  What both halves of the proof share: the program as the launch theorem sees it, the resource algebra, the arrays, and
  the specification of the gather: entry `h * 333824 + k` of its result is entry `table k + h * 2212` of the flat table.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Writes
public import Idealize.ShloMosaic.Lib.Transfers
public import Idealize.ShloMosaic.Lib.Tactic
public import proofs.«01_k».proof.Proof.Gen.KernelIdeal
public import proofs.«01_k».proof.Proof.Gen.KernelIdeal.Skeleton

@[expose] public section

noncomputable section

namespace Cert.Proof.OfKernelIdeal

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift

/-! ## The resource algebra: the launch's handshakes, the pipelined region's rounds, and the counters of plain copies -/

abbrev UH : Type := URounds (GSem nD τ sig) ℕ
abbrev UR : Type := URounds (GSem nD τ sig) Unit
abbrev UU : Type := UH × (UR × Counters)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def ER : Emb UR (MT nD τ sig (HIx 1) (Elt F) ℕ UU ℕ) :=
  ((Emb.inl : Emb UR (UR × Counters)).trans (Emb.inr : Emb (UR × Counters) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance ER_landsIn : (ER : Emb UR 𝕄).LandsIn (upEmb : UEmb _ 𝕄) := by unfold ER; infer_instance

/-! ## The gather's specification -/

/-- The flat table and the gathered result of device `d`, as locations. -/
abbrev tLoc (d : Dev nD) : Loc nD τ sig := (SparseCore.T d).loc main_v39
abbrev iLoc (d : Dev nD) : Loc nD τ sig := (SparseCore.T d).loc main_v38
abbrev oLoc (d : Dev nD) : Loc nD τ sig := (SparseCore.T d).loc main_v40

/-- Entry `j` of the result is the table's entry `I k + h * 2212`, where `j = h * 333824 + k`. -/
def GatherAt (T : S35392.Idx → Elt F .f32) (I : S333824.Idx → Elt F .i32) (j : S5341184.Idx) (x : Elt F .f32) : Prop :=
  ∀ (k : S333824.Idx) (a : S35392.Idx), (k 0).val = (j 0).val % 333824 →
    (a 0).val = (I k).toNat + (j 0).val / 333824 * 2212 → x = T a

/-- The elements of the result that subcore number `w` writes. -/
def part (w : ℕ) : Finset S5341184.Idx := Finset.univ.filter fun j => (j 0).val % 333824 / 10432 = w

theorem mem_part {w : ℕ} {j : S5341184.Idx} : j ∈ part w ↔ (j 0).val % 333824 / 10432 = w := by simp [part]

end Cert.Proof.OfKernelIdeal
-- ==== Proof.KernelIdealTile.lean ====
/-
  One subcore's task: it fetches the flat table, and for each of its four chunks of 2608 indices fetches the indices, gathers
  sixteen rows (one per head) of 2608 entries into a scratch of its own, sixteen lanes at a time, and copies the rows out. Proved
  once, at a symbolic SparseCore and subcore; what a head does in a trip, and how a row goes out, are one lemma each.
-/
module

public import proofs.«01_k».proof.Proof.KernelIdealBase

@[expose] public section

noncomputable section

namespace Cert.Proof.OfKernelIdeal

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The buffers -/

abbrev tV : Memref sig .scVector .hbm S35392 .f32 := Memref.whole main_v39_scv
abbrev iV : Memref sig .scVector .hbm S333824 .i32 := Memref.whole main_v38_scv
abbrev oV : Memref sig .scVector .hbm S5341184 .f32 := Memref.whole main_v40_scv
/-- A task's scratch: the table, the chunk's indices, the sixteen gathered rows. -/
abbrev sT : Memref sig .scVector .vmem S35392 .f32 := Memref.whole cc0_scratch0
abbrev sI : Memref sig .scVector .vmem S2608 .i32 := Memref.whole cc0_scratch1
abbrev sG : Memref sig .scVector .vmem S41728 .f32 := Memref.whole cc0_scratch2

/-! ## The offsets, as numbers -/

/-- The subcore's number, from its coordinates. -/
abbrev wid (L : grid0.Coords) : ℕ := (L 1).val * 2 + (L 0).val

theorem wid_lt (L : grid0.Coords) : wid L < 32 := by
  have h0 : (L 0).val < 2 := (L 0).isLt
  have h1 : (L 1).val < 16 := (L 1).isLt
  unfold wid; omega

theorem off1_val : ∀ (L : grid0.Coords) (t : Fin k0_t1_loop.trips), k0_off1 L t 0 = wid L * 10432 + t.val * 2608 := by decide +kernel
theorem off2_val : ∀ (t : Fin k0_t2_loop.trips), k0_off2 t 0 = 16 * t.val := by decide +kernel
theorem off19_val : ∀ (L : grid0.Coords) (t : Fin k0_t1_loop.trips) (h : Fin 16),
    k0_off19 L t (BitVec.ofNat 32 (333824 * h.val)) 0 = h.val * 333824 + (wid L * 10432 + t.val * 2608) := by decide +kernel
theorem trips1 : k0_t1_loop.trips = 4 := by decide +kernel
theorem trips2 : k0_t2_loop.trips = 163 := by decide +kernel

/-! ## One head of one trip -/

section Body

variable (d : Dev nD) (L : grid0.Coords)

abbrev cV : Fin τ.nSC := (L 0).castLE hcore0
abbrev jV : Fin τ.nSub := (L 1).castLE hsub0
abbrev thr : Thread nD τ := V d (cV L) (jV L)

/-- What the row scratch holds within a chunk whose indices are `I`: after `t` whole trips and the first `m` heads of the next, the
    entries these wrote. -/
def Filled (Tb : S35392.Idx → Elt F .f32) (I : S2608.Idx → Elt F .i32) (t m : ℕ) (g : S41728.Idx → Elt F .f32) : Prop :=
  ∀ (j : S41728.Idx) (k : S2608.Idx) (a : S35392.Idx) (h : ℕ), (j 0).val = h * 2608 + (k 0).val →
    (k 0).val < 16 * t + (if h < m then 16 else 0) → (a 0).val = (I k).toNat + h * 2212 → g j = Tb a

/-- Sixteen lanes of head `m` written at trip `t`. -/
theorem Filled.store {Tb : S35392.Idx → Elt F .f32} {I : S2608.Idx → Elt F .i32} {t m : ℕ} {g : S41728.Idx → Elt F .f32}
    (hg : Filled Tb I t m g) (ht : t < 163) {off : Fin 1 → ℕ} {hoff : ∀ a, off a + S16.size a ≤ S41728.size a} (ho : off 0 = m * 2608 + 16 * t)
    (x : (Rect.unit (s := S41728) off S16.size hoff).shape.Idx → Elt F .f32)
    (hx : ∀ (y : S16.Idx) (k : S2608.Idx) (a : S35392.Idx), (k 0).val = 16 * t + (y 0).val → (a 0).val = (I k).toNat + m * 2212 → x y = Tb a) :
    Filled Tb I t (m + 1) ((sG.access (Rect.unit (s := S41728) off S16.size hoff)).write (Elt F) g x Finset.univ) := by
  intro j k a h hj hk ha
  have hk' : (k 0).val < 2608 := (k 0).isLt
  have hw := View.read_whole (Val := Elt F) (b := (cc0_scratch2 : Ref sig .scVector)) (f := (sG.access (Rect.unit (s := S41728) off S16.size hoff)).write (Elt F) g x Finset.univ)
  rw [← hw]
  by_cases hin : off 0 ≤ (j 0).val ∧ (j 0).val < off 0 + 16
  · obtain ⟨h1, h2⟩ := hin
    have : h = m := by split at hk <;> omega
    subst this
    refine (View.read_writes_cons_hit_of_coords (Val := Elt F) sG.view g (Rect.unit (s := S41728) off S16.size hoff) x [] (Shape.ofLane (d := S16.size) ⟨(j 0).val - off 0, show (j 0).val - off 0 < 16 by omega⟩) j ?_).trans ?_
    · intro a'; obtain rfl : a' = 0 := Subsingleton.elim _ _
      show (j 0).val = off 0 + 1 * ((j 0).val - off 0); omega
    · exact hx _ k a (by show _ = _ + ((j 0).val - off 0); omega) ha
  · refine (View.read_writes_cons_miss_of_axis (Val := Elt F) sG.view g ⟨Rect.unit (s := S41728) off S16.size hoff, x⟩ [] j 0 (off 0) 16 rfl rfl rfl (by omega)).trans ?_
    show g j = _
    refine hg j k a h hj ?_ ha
    by_cases h' : h = m
    · subst h'; simp at hk ⊢; omega
    · split at hk <;> split <;> omega

theorem Filled.next {Tb : S35392.Idx → Elt F .f32} {I : S2608.Idx → Elt F .i32} {t : ℕ} {g : S41728.Idx → Elt F .f32}
    (hg : Filled Tb I t 16 g) : Filled Tb I (t + 1) 0 g := by
  intro j k a h hj hk ha
  have hj' : (j 0).val < 41728 := (j 0).isLt
  refine hg j k a h hj ?_ ha
  have : h < 16 := by omega
  simp [this] at hk ⊢; omega

/-- The lanes loaded at trip `t` are the chunk's indices from `16 * t`. -/
def Lanes (I : S2608.Idx → Elt F .i32) (t : ℕ) (v : IVec S16 32) : Prop :=
  ∀ (y : S16.Idx) (k : S2608.Idx), (k 0).val = 16 * t + (y 0).val → v y = I k

theorem Lanes.lt {I : S2608.Idx → Elt F .i32} (hI : ∀ k, (I k).toNat < 2212) {t : ℕ} (ht : t < 163) {v : IVec S16 32}
    (hv : Lanes (F := F) I t v) (y : S16.Idx) : (v y).toNat < 2212 := by
  have hy : (y 0).val < 16 := (y 0).isLt
  rw [hv y (Shape.ofLane (d := S2608.size) ⟨16 * t + (y 0).val, show 16 * t + (y 0).val < 2608 by omega⟩) rfl]
  exact hI _

/-- The lanes of head `m`: the loaded lanes moved by `m` rows of the table, none past the table's end. -/
theorem lane_val {v : IVec S16 32} (hv : ∀ y, (v y).toNat < 2212) {m : ℕ} (hm : m < 16) (y : S16.Idx) :
    (v y + BitVec.ofNat 32 (m * 2212)).toNat = (v y).toNat + m * 2212 := by
  have := hv y
  rw [BitVec.toNat_add, BitVec.toNat_ofNat]
  omega

/-- What a head gathers, lane by lane. -/
theorem gather_val {Tb : S35392.Idx → Elt F .f32} {I : S2608.Idx → Elt F .i32} (hI : ∀ k, (I k).toNat < 2212) {t m : ℕ} (ht : t < 163)
    (hm : m < 16) {v : IVec S16 32} (hv : Lanes (F := F) I t v) {w : IVec S16 32} (hw : ∀ y, w y = v y + BitVec.ofNat 32 (m * 2212))
    (hb : ∀ a x, ((![w] : Fin 1 → IVec S16 32) a x).toNat < S35392.size a)
    (y : S16.Idx) (k : S2608.Idx) (a : S35392.Idx) (hk : (k 0).val = 16 * t + (y 0).val) (ha : (a 0).val = (I k).toNat + m * 2212) :
    loadIdx (F := F) (e := .f32) ((sT.access (.whole S35392)).read (Elt F) Tb) ![w] hb y = Tb a := by
  have h1 : (w y).toNat = (I k).toNat + m * 2212 := by
    rw [hw, lane_val (Lanes.lt hI ht hv) hm, hv y k hk]
  have h2 : idxAt (s := S35392) ![w] hb y = a := by
    funext b; obtain rfl : b = 0 := Subsingleton.elim _ _
    exact Fin.ext (h1.trans ha.symm)
  unfold loadIdx
  rw [h2]
  exact congrFun (Memref.read_access_whole (Elt F) (cc0_scratch0 : Ref sig .scVector) Tb) a

/-- The check of a head passes. -/
theorem check {I : S2608.Idx → Elt F .i32} (hI : ∀ k, (I k).toNat < 2212) {t m : ℕ} (ht : t < 163)
    (hm : m < 16) {v : IVec S16 32} (hv : Lanes (F := F) I t v) {w : IVec S16 32} (hw : ∀ y, w y = v y + BitVec.ofNat 32 (m * 2212)) :
    ∀ a x, ((![w] : Fin 1 → IVec S16 32) a x).toNat < S35392.size a := by
  intro a x
  obtain rfl : a = 0 := Subsingleton.elim _ _
  show (w x).toNat < 35392
  rw [hw, lane_val (Lanes.lt hI ht hv) hm]
  have := Lanes.lt hI ht hv x
  omega

/-- One head of one trip: its check, its gather, and the store of the gathered lanes. -/
theorem wp_head {α : Type} {Q : α → sProp 𝕄} {Tb : S35392.Idx → Elt F .f32} {I : S2608.Idx → Elt F .i32} (hI : ∀ k, (I k).toNat < 2212)
    {t : ℕ} (ht : t < 163) (m : ℕ) (hm : m < 16) {v : IVec S16 32} (hv : Lanes (F := F) I t v) {w : IVec S16 32}
    (hw : ∀ y, w y = v y + BitVec.ofNat 32 (m * 2212))
    {P : Prop} {dec : Decidable P} (hP : P) {hb : P → ∀ a x, ((![w] : Fin 1 → IVec S16 32) a x).toNat < S35392.size a}
    {hl : sT.view.LoadsAt (LoadRect.whole S35392)} {off : Fin 1 → ℕ} {hoff : ∀ a, off a + S16.size a ≤ S41728.size a} (ho : off 0 = m * 2608 + 16 * t)
    {hl' : sG.view.LoadsAt (Rect.unit (s := S41728) off S16.size hoff).toLoadRect}
    {hs : (sG.access (Rect.unit (s := S41728) off S16.size hoff)).Stores Finset.univ}
    {hm' : Finset.univ = Finset.univ ∨ ∀ a, (Rect.unit (s := S41728) off S16.size hoff).stride a = 1}
    {k : PLift P → (S35392.Idx → Elt F .f32) → (S16.Idx → Elt F .f32) → PUnit → Prog (TpuEff nD τ sig (Elt F) Λ₀ (thr d L).2) α} {g : S41728.Idx → Elt F .f32} (hg : Filled Tb I t m g) :
    (sT.view.loc (thr d L) ↦{fullShare} Tb)
      ⊢ iprop((sG.view.loc (thr d L) ↦{fullShare} g)
        -∗ (∀ g' hw' f f', ⌜Filled Tb I t (m + 1) g'⌝ -∗ (sT.view.loc (thr d L) ↦{fullShare} Tb) -∗ (sG.view.loc (thr d L) ↦{fullShare} g')
            -∗ wp frame (wpE (defs₀ (F := F)) 𝒱₀ (thr d L) none) Set.univ (k hw' f f' ⟨⟩) Q)
        -∗ wp frame (wpE (defs₀ (F := F)) 𝒱₀ (thr d L) none) Set.univ
          (.op (.assume P dec) fun hw' => .op (.load sT (LoadRect.whole S35392) hl) fun f =>
            .op (.load sG (Rect.unit (s := S41728) off S16.size hoff).toLoadRect hl') fun f' =>
              .op (.store sG (Rect.unit (s := S41728) off S16.size hoff) (loadIdx (F := F) (e := .f32) f ![w] (hb hw'.down)) Finset.univ hs hm') (k hw' f f')) Q) := by
  rw [wp_assume_of _ _ _ _ hP]
  iintro Ht Hg Hk
  iapply (wp_load_rect 𝒱₀ (thr d L) none Set.univ (m := sT) (r := Rect.whole S35392) (S := Finset.univ) (q := fullShare) (Finset.subset_univ _)) $$ Ht; iintro Ht
  iapply (wp_load 𝒱₀ (thr d L) none Set.univ (m := sG) (S := Finset.univ) (Finset.subset_univ _)) $$ Hg; iintro Hg
  iapply (wp_store 𝒱₀ (thr d L) none Set.univ (m := sG) (r := Rect.unit (s := S41728) off S16.size hoff) (Mk := Finset.univ) (S := Finset.univ) (Finset.subset_univ _)) $$ Hg; iintro Hg
  iapply Hk $$ %_ %_ %_ %_ %(hg.store ht ho _ (gather_val hI ht hm hv hw _)) Ht Hg

/-- What the gather loop holds before trip `t` of a chunk whose indices are `I`. -/
def inv2 (Tb : S35392.Idx → Elt F .f32) (I : S2608.Idx → Elt F .i32) (t : ℕ) (_ : PUnit) : sProp 𝕄 :=
  iprop((sT.view.loc (thr d L) ↦{fullShare} Tb) ∗ (sI.view.loc (thr d L) ↦{fullShare} I)
    ∗ ∃ g, ⌜Filled Tb I t 0 g⌝ ∗ (sG.view.loc (thr d L) ↦{fullShare} g))

theorem off_val : ∀ (t : Fin k0_t2_loop.trips),
    k0_off3 t 0 = 0 * 2608 + 16 * t.val ∧ k0_off4 t 0 = 1 * 2608 + 16 * t.val ∧ k0_off5 t 0 = 2 * 2608 + 16 * t.val
    ∧ k0_off6 t 0 = 3 * 2608 + 16 * t.val ∧ k0_off7 t 0 = 4 * 2608 + 16 * t.val ∧ k0_off8 t 0 = 5 * 2608 + 16 * t.val
    ∧ k0_off9 t 0 = 6 * 2608 + 16 * t.val ∧ k0_off10 t 0 = 7 * 2608 + 16 * t.val ∧ k0_off11 t 0 = 8 * 2608 + 16 * t.val
    ∧ k0_off12 t 0 = 9 * 2608 + 16 * t.val ∧ k0_off13 t 0 = 10 * 2608 + 16 * t.val ∧ k0_off14 t 0 = 11 * 2608 + 16 * t.val
    ∧ k0_off15 t 0 = 12 * 2608 + 16 * t.val ∧ k0_off16 t 0 = 13 * 2608 + 16 * t.val ∧ k0_off17 t 0 = 14 * 2608 + 16 * t.val
    ∧ k0_off18 t 0 = 15 * 2608 + 16 * t.val := by decide +kernel

theorem lanes_load (I : S2608.Idx → Elt F .i32) (t : Fin k0_t2_loop.trips) :
    Lanes (F := F) I t.val (sI.view.readAt (Elt F) (Rect.unit (s := S2608) (k0_off2 t) S16.size (k0_off2_inb t)).toLoadRect I) := by
  intro y k hk
  rw [View.readAt_apply]
  refine congrArg I (funext fun (a : Fin 1) => Fin.ext ?_)
  obtain rfl : a = 0 := Subsingleton.elim _ _
  rw [hk]
  show k0_off2 t 0 + 1 * (y 0).val = _
  rw [off2_val, Nat.one_mul]

theorem pay_val (v : IVec S16 32) :
    (∀ y, k0_pay1 (F := F) v y = v y + BitVec.ofNat 32 (0 * 2212))
    ∧ (∀ y, k0_pay2 (F := F) v y = v y + BitVec.ofNat 32 (1 * 2212))
    ∧ (∀ y, k0_pay3 (F := F) v y = v y + BitVec.ofNat 32 (2 * 2212))
    ∧ (∀ y, k0_pay4 (F := F) v y = v y + BitVec.ofNat 32 (3 * 2212))
    ∧ (∀ y, k0_pay5 (F := F) v y = v y + BitVec.ofNat 32 (4 * 2212))
    ∧ (∀ y, k0_pay6 (F := F) v y = v y + BitVec.ofNat 32 (5 * 2212))
    ∧ (∀ y, k0_pay7 (F := F) v y = v y + BitVec.ofNat 32 (6 * 2212))
    ∧ (∀ y, k0_pay8 (F := F) v y = v y + BitVec.ofNat 32 (7 * 2212))
    ∧ (∀ y, k0_pay9 (F := F) v y = v y + BitVec.ofNat 32 (8 * 2212))
    ∧ (∀ y, k0_pay10 (F := F) v y = v y + BitVec.ofNat 32 (9 * 2212))
    ∧ (∀ y, k0_pay11 (F := F) v y = v y + BitVec.ofNat 32 (10 * 2212))
    ∧ (∀ y, k0_pay12 (F := F) v y = v y + BitVec.ofNat 32 (11 * 2212))
    ∧ (∀ y, k0_pay13 (F := F) v y = v y + BitVec.ofNat 32 (12 * 2212))
    ∧ (∀ y, k0_pay14 (F := F) v y = v y + BitVec.ofNat 32 (13 * 2212))
    ∧ (∀ y, k0_pay15 (F := F) v y = v y + BitVec.ofNat 32 (14 * 2212))
    ∧ (∀ y, k0_pay16 (F := F) v y = v y + BitVec.ofNat 32 (15 * 2212)) :=
  ⟨fun _ => rfl, fun _ => rfl, fun _ => rfl, fun _ => rfl, fun _ => rfl, fun _ => rfl, fun _ => rfl, fun _ => rfl, fun _ => rfl, fun _ => rfl, fun _ => rfl, fun _ => rfl, fun _ => rfl, fun _ => rfl, fun _ => rfl, fun _ => rfl⟩

set_option maxHeartbeats 400000 in
/-- One trip of the gather loop. -/
theorem body2 {Tb : S35392.Idx → Elt F .f32} {I : S2608.Idx → Elt F .i32} (hI : ∀ k, (I k).toNat < 2212) (v2 c c' : BitVec 32)
    (t1 : Fin k0_t1_loop.trips) (t : Fin k0_t2_loop.trips) :
    inv2 d L Tb I t.val ⟨⟩ ⊢ wp frame (wpE (defs₀ (F := F)) 𝒱₀ (thr d L) none) Set.univ
      (k0_t2_body L tV (Memref.isWhole_whole _) iV (Memref.isWhole_whole _) oV (Memref.isWhole_whole _) sT (Memref.isWhole_whole _)
        sI (Memref.isWhole_whole _) sG (Memref.isWhole_whole _) cc0_scoped0 cc0_scoped1 cc0_scoped2 cc0_scoped3 cc0_scoped4 cc0_scoped5
        cc0_scoped6 cc0_scoped7 cc0_scoped8 cc0_scoped9 cc0_scoped10 cc0_scoped11 cc0_scoped12 cc0_scoped13 cc0_scoped14 cc0_scoped15
        cc0_scoped16 cc0_scoped17 v2 c c' t1 t ⟨⟩) fun _ => inv2 d L Tb I (t.val + 1) ⟨⟩ := by
  unfold k0_t2_body
  simp only [k0_part1_eq_skeleton, k0_part2_eq_skeleton, k0_part3_eq_skeleton]
  unfold k0_part1_skel k0_part2_skel k0_part3_skel
  simp only [SparseCore.vectorLoadIdx, Prog.lift, Prog.bind_op, Prog.bind_ret, Prog.pure_eq_ret]
  have ht : t.val < 163 := trips2 ▸ t.isLt
  obtain ⟨o0, o1, o2, o3, o4, o5, o6, o7, o8, o9, o10, o11, o12, o13, o14, o15⟩ := off_val t
  unfold inv2
  iintro ⟨Ht, Hi, %g, %hg, Hg⟩
  iapply (wp_load 𝒱₀ (thr d L) none Set.univ (m := sI) (S := Finset.univ) (Finset.subset_univ _)) $$ Hi; iintro Hi
  have hv := lanes_load (F := F) I t
  generalize sI.view.readAt (Elt F) (Rect.unit (s := S2608) (k0_off2 t) S16.size (k0_off2_inb t)).toLoadRect I = v at hv ⊢
  obtain ⟨p0, p1, p2, p3, p4, p5, p6, p7, p8, p9, p10, p11, p12, p13, p14, p15⟩ := pay_val (F := F) v
  iapply (wp_head d L hI ht 0 (by decide) hv p0 (check hI ht (by decide) hv p0) (hb := k0_idx1_inb _) o0 hg) $$ Ht Hg
  clear hg; iintro %g %_ %_ %_ %hg Ht Hg
  iapply (wp_head d L hI ht 1 (by decide) hv p1 (check hI ht (by decide) hv p1) (hb := k0_idx2_inb _) o1 hg) $$ Ht Hg
  clear hg; iintro %g %_ %_ %_ %hg Ht Hg
  iapply (wp_head d L hI ht 2 (by decide) hv p2 (check hI ht (by decide) hv p2) (hb := k0_idx3_inb _) o2 hg) $$ Ht Hg
  clear hg; iintro %g %_ %_ %_ %hg Ht Hg
  iapply (wp_head d L hI ht 3 (by decide) hv p3 (check hI ht (by decide) hv p3) (hb := k0_idx4_inb _) o3 hg) $$ Ht Hg
  clear hg; iintro %g %_ %_ %_ %hg Ht Hg
  iapply (wp_head d L hI ht 4 (by decide) hv p4 (check hI ht (by decide) hv p4) (hb := k0_idx5_inb _) o4 hg) $$ Ht Hg
  clear hg; iintro %g %_ %_ %_ %hg Ht Hg
  iapply (wp_head d L hI ht 5 (by decide) hv p5 (check hI ht (by decide) hv p5) (hb := k0_idx6_inb _) o5 hg) $$ Ht Hg
  clear hg; iintro %g %_ %_ %_ %hg Ht Hg
  iapply (wp_head d L hI ht 6 (by decide) hv p6 (check hI ht (by decide) hv p6) (hb := k0_idx7_inb _) o6 hg) $$ Ht Hg
  clear hg; iintro %g %_ %_ %_ %hg Ht Hg
  iapply (wp_head d L hI ht 7 (by decide) hv p7 (check hI ht (by decide) hv p7) (hb := k0_idx8_inb _) o7 hg) $$ Ht Hg
  clear hg; iintro %g %_ %_ %_ %hg Ht Hg
  iapply (wp_head d L hI ht 8 (by decide) hv p8 (check hI ht (by decide) hv p8) (hb := k0_idx9_inb _) o8 hg) $$ Ht Hg
  clear hg; iintro %g %_ %_ %_ %hg Ht Hg
  iapply (wp_head d L hI ht 9 (by decide) hv p9 (check hI ht (by decide) hv p9) (hb := k0_idx10_inb _) o9 hg) $$ Ht Hg
  clear hg; iintro %g %_ %_ %_ %hg Ht Hg
  iapply (wp_head d L hI ht 10 (by decide) hv p10 (check hI ht (by decide) hv p10) (hb := k0_idx11_inb _) o10 hg) $$ Ht Hg
  clear hg; iintro %g %_ %_ %_ %hg Ht Hg
  iapply (wp_head d L hI ht 11 (by decide) hv p11 (check hI ht (by decide) hv p11) (hb := k0_idx12_inb _) o11 hg) $$ Ht Hg
  clear hg; iintro %g %_ %_ %_ %hg Ht Hg
  iapply (wp_head d L hI ht 12 (by decide) hv p12 (check hI ht (by decide) hv p12) (hb := k0_idx13_inb _) o12 hg) $$ Ht Hg
  clear hg; iintro %g %_ %_ %_ %hg Ht Hg
  iapply (wp_head d L hI ht 13 (by decide) hv p13 (check hI ht (by decide) hv p13) (hb := k0_idx14_inb _) o13 hg) $$ Ht Hg
  clear hg; iintro %g %_ %_ %_ %hg Ht Hg
  iapply (wp_head d L hI ht 14 (by decide) hv p14 (check hI ht (by decide) hv p14) (hb := k0_idx15_inb _) o14 hg) $$ Ht Hg
  clear hg; iintro %g %_ %_ %_ %hg Ht Hg
  iapply (wp_head d L hI ht 15 (by decide) hv p15 (check hI ht (by decide) hv p15) (hb := k0_idx16_inb _) o15 hg) $$ Ht Hg
  clear hg; iintro %g %_ %_ %_ %hg Ht Hg
  sl_step
  isplitl [Ht]; · iexact Ht
  isplitl [Hi]; · iexact Hi
  iexists g; isplitr; · ipureintro; exact hg.next
  iexact Hg

/-! ## A copy and its wait -/

/-- The subcore's `owes`, with waits of its own recorded beyond `W`. -/
def Owed (O : CellTallies nD τ sig (HIx 1)) (W : Waits sig (HIx 1)) : sProp 𝕄 :=
  iprop(∃ W', ⌜∀ p ∈ W', p ∈ W ∨ p.2 = none⌝ ∗ owes (thr d L) O W')

/-- A copy of the subcore's own and its wait, on a semaphore of its own: the destination holds what the source reads. -/
theorem wp_copy {α : Type} {Q : α → sProp 𝕄} {O : CellTallies nD τ sig (HIx 1)} {W : Waits sig (HIx 1)} {sp sp' : Space} {s : Shape} {e : EltTy}
    {src : Memref sig .scVector sp s e} {dst : Memref sig .scVector sp' s e} {sm : DmaSem sig} (hsm : (SemLoc.dma sm : SemLoc sig).isScoped .scVector = true)
    (hs : 0 < s.numel) {h1 : src.view.WordExact} {h2 : dst.view.WordExact} {h3 : (DmaTarget.here dst : DmaTarget nD τ sig (thr d L).2 sp' s e).Typed sp (.dma sm)}
    {h4 : src.view.WordExact} {h5 : dst.view.WordExact}
    {k : PUnit → PUnit → Prog (TpuEff nD τ sig (Elt F) Λ₀ (thr d L).2) α} {q : PosShare TreeShare} {fs : Buf (Elt F) (src.view.loc (thr d L))}
    {Ss : Finset (Idx (src.view.loc (thr d L)))} {Sd : Finset (Idx (dst.view.loc (thr d L)))} {fd : Buf (Elt F) (dst.view.loc (thr d L))}
    (hSs : src.view.set ⊆ Ss) (hSd : dst.view.set ⊆ Sd) :
    iprop(Transfers.MayWaits (thr d L) (none : HIx 1) O ∗ (src.view.loc (thr d L) ↦[Ss]{q} fs) ∗ (dst.view.loc (thr d L) ↦[Sd]{fullShare} fd)
        ∗ ownSems0 (thr d L) ∗ Owed d L O W)
      ⊢ iprop(((src.view.loc (thr d L) ↦[Ss]{q} fs)
          -∗ (dst.view.loc (thr d L) ↦[Sd]{fullShare} dst.view.write (Elt F) fd (src.view.read (Elt F) fs) Finset.univ)
          -∗ ownSems0 (thr d L) -∗ Owed d L O W
          -∗ wp frame (wpE (defs₀ (F := F)) 𝒱₀ (thr d L) none) Set.univ (k ⟨⟩ ⟨⟩) Q)
        -∗ wp frame (wpE (defs₀ (F := F)) 𝒱₀ (thr d L) none) Set.univ
          (.op (.enqueueDma src (.here dst) (.dma sm) h1 h2 h3) fun x => .op (.waitDma2 sm src dst h4 h5) (k x)) Q) := by
  have hcell : ((thr d L, SemLoc.dma sm) : GSem nD τ sig) ∈ ownCells (thr d L) := mem_ownCells.mpr ⟨rfl, hsm⟩
  unfold SparseCore.Cfg.ownSems0 Owed
  rw [SparseCore.bigSep_erase' hcell]
  iintro ⟨#Hmw, Hs, Hd, ⟨Hv, Hvs⟩, %W', %hW', HO⟩ Hk
  ihave Hs' := (pointsTo_split_subset (ℓ := src.view.loc (thr d L)) (I := src.view.set) hSs).1 $$ Hs
  icases Hs' with ⟨Hs, Hr⟩
  iapply (Transfers.wp_dmaLocal countersEmb 𝒱₀ (thr d L) none (none : HIx 1) dst.view.dmaCredit rfl (View.dmaCredit_pos _ hs) hSd) $$ [Hs Hd Hv]
  · isplitl [Hs]; · iexact Hs
    isplitl [Hd]; · iexact Hd
    iexact Hv
  iintro Hfl
  iapply (Transfers.wp_waitLocalO countersEmb 𝒱₀ (thr d L) none (none : HIx 1) rfl) $$ [Hfl HO]
  · isplitl [Hfl]; · iexact Hfl
    isplitl [HO]; · iexact HO
    iapply (Transfers.MayWaits.elim _); iexact Hmw
  iintro ⟨⟨Hd, Hs⟩, Hv, HO⟩
  ihave Hs := (pointsTo_split_subset (ℓ := src.view.loc (thr d L)) (I := src.view.set) hSs).2 $$ [Hs Hr]
  · isplitl [Hs] <;> iassumption
  iapply Hk $$ Hs Hd [Hv Hvs] [HO]
  · isplitl [Hv] <;> iassumption
  · iexists (insert (SemLoc.dma sm, (none : HIx 1)) W'); isplitr
    · ipureintro; intro p hp
      rcases Finset.mem_insert.mp hp with hp | hp
      · exact .inr (hp ▸ rfl)
      · exact hW' p hp
    · iexact HO

/-! ## A row goes out -/

/-- What the result holds after `c` whole chunks and the first `m` heads of the next, among the entries of subcore `w`. -/
def Placed (Tb : S35392.Idx → Elt F .f32) (I : S333824.Idx → Elt F .i32) (w c m : ℕ) (f : S5341184.Idx → Elt F .f32) : Prop :=
  ∀ j : S5341184.Idx, j ∈ part w → (j 0).val % 333824 < (if (j 0).val / 333824 < m then 2608 else 0) + (w * 10432 + c * 2608) → GatherAt Tb I j (f j)

/-- The indices of chunk `c` of subcore `w`. -/
def Chunk (I : S333824.Idx → Elt F .i32) (w c : ℕ) (Ic : S2608.Idx → Elt F .i32) : Prop :=
  ∀ (x : S2608.Idx) (k : S333824.Idx), (k 0).val = w * 10432 + c * 2608 + (x 0).val → Ic x = I k

theorem Placed.next {Tb : S35392.Idx → Elt F .f32} {I : S333824.Idx → Elt F .i32} {w c : ℕ} {f : S5341184.Idx → Elt F .f32}
    (hf : Placed Tb I w c 16 f) : Placed Tb I w (c + 1) 0 f := by
  have key : ∀ n q : ℕ, q < 16 → n < (if q < 0 then 2608 else 0) + (w * 10432 + (c + 1) * 2608) → n < (if q < 16 then 2608 else 0) + (w * 10432 + c * 2608) := by
    intro n q hq h
    rw [if_neg (Nat.not_lt_zero _)] at h
    rw [if_pos hq]; omega
  intro j hj hk
  exact hf j hj (key _ _ (Nat.div_lt_of_lt_mul (j 0).isLt) hk)

/-- Row `h` of the scratch goes to its place among the result's entries. -/
theorem Placed.store {Tb : S35392.Idx → Elt F .f32} {I : S333824.Idx → Elt F .i32} {w c h : ℕ} {f : S5341184.Idx → Elt F .f32}
    (hf : Placed Tb I w c h f) (hw32 : w < 32) (hc : c < 4) {Ic : S2608.Idx → Elt F .i32} (hIc : Chunk (F := F) I w c Ic) {g : S41728.Idx → Elt F .f32}
    (hg : Filled Tb Ic 163 0 g) {off : Fin 1 → ℕ} {ho : ∀ a, off a + S2608.size a ≤ S5341184.size a} (hD : off 0 = h * 333824 + (w * 10432 + c * 2608))
    (x : (Rect.unit (s := S5341184) off S2608.size ho).shape.Idx → Elt F .f32)
    (hx : ∀ y : S2608.Idx, ∃ i : S41728.Idx, (i 0).val = h * 2608 + (y 0).val ∧ x y = g i) :
    Placed Tb I w c (h + 1) ((oV.access (Rect.unit (s := S5341184) off S2608.size ho)).write (Elt F) f x Finset.univ) := by
  intro j hj hk
  have hw := View.read_whole (Val := Elt F) (b := (main_v40_scv : Ref sig .scVector))
    (f := (oV.access (Rect.unit (s := S5341184) off S2608.size ho)).write (Elt F) f x Finset.univ)
  rw [← hw]
  have hj₀ := mem_part.mp hj
  by_cases hin : off 0 ≤ (j 0).val ∧ (j 0).val < off 0 + 2608
  · obtain ⟨h1, h2⟩ := hin
    intro k a hk' ha
    refine (View.read_writes_cons_hit_of_coords (Val := Elt F) oV.view f (Rect.unit (s := S5341184) off S2608.size ho) x []
      (Shape.ofLane (d := S2608.size) ⟨(j 0).val - off 0, show (j 0).val - off 0 < 2608 by omega⟩) j ?_).trans ?_
    · intro a'; obtain rfl : a' = 0 := Subsingleton.elim _ _
      show (j 0).val = off 0 + 1 * ((j 0).val - off 0); omega
    · obtain ⟨i, hi, e⟩ := hx (Shape.ofLane (d := S2608.size) ⟨(j 0).val - off 0, show (j 0).val - off 0 < 2608 by omega⟩)
      rw [e]
      refine hg i (Shape.ofLane (d := S2608.size) ⟨(j 0).val - off 0, show (j 0).val - off 0 < 2608 by omega⟩) a h hi ?_ ?_
      · show (j 0).val - off 0 < _; omega
      · rw [hIc _ k (by show _ = _ + ((j 0).val - off 0); omega), ha]
        congr 2; omega
  · intro k a hk' ha
    refine (View.read_writes_cons_miss_of_axis (Val := Elt F) oV.view f ⟨Rect.unit (s := S5341184) off S2608.size ho, x⟩ [] j 0 (off 0) 2608 rfl rfl rfl (by omega)).trans ?_
    show f j = _
    refine hf j hj ?_ k a hk' ha
    by_cases h' : (j 0).val / 333824 = h
    · rw [if_pos (by omega)] at hk
      rw [if_neg (by omega)]; omega
    · split at hk <;> split <;> omega

end Body

end Cert.Proof.OfKernelIdeal
-- ==== Proof.KernelIdealBody.lean ====
/-
  One subcore's whole task: the table in, then four chunks, each an index fetch, the gather loop and sixteen rows out. At its end
  every entry of the result that is the subcore's holds the table's entry its index selects.
-/
module

public import proofs.«01_k».proof.Proof.KernelIdealTile

@[expose] public section

noncomputable section

namespace Cert.Proof.OfKernelIdeal

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Body

variable (d : Dev nD) (L : grid0.Coords)

/-- A row's place in the result is among the subcore's entries. -/
theorem row_subset {c h : ℕ} (hc : c < 4) (hh : h < 16) {off : Fin 1 → ℕ} {ho : ∀ a, off a + S2608.size a ≤ S5341184.size a}
    (hD : off 0 = h * 333824 + (wid L * 10432 + c * 2608)) :
    (oV.slice (Rect.unit (s := S5341184) off S2608.size ho) (fun _ => rfl)).view.set ⊆ part (wid L) := by
  intro j hj
  have hj : j ∈ ((View.whole main_v40_scv : View sig .scVector _ _ _).slice (Rect.unit (s := S5341184) off S2608.size ho)).set := hj
  rw [View.set_slice_whole] at hj
  obtain ⟨y, hx, e'⟩ := (LoadRect.mem_set _).mp hj 0
  have hx : y < 2608 := hx
  have e' : (j 0).val = off 0 + 1 * y := e'
  have hw := wid_lt L
  rw [mem_part, e', hD]
  generalize wid L = w at *
  omega

/-- A row goes out, and its copy is waited for. -/
theorem wp_out {α : Type} {Q : α → sProp 𝕄} {O : CellTallies nD τ sig (HIx 1)} {W : Waits sig (HIx 1)} {Tb : S35392.Idx → Elt F .f32}
    {I : S333824.Idx → Elt F .i32} {c : ℕ} (hc : c < 4) {Ic : S2608.Idx → Elt F .i32} (hIc : Chunk (F := F) I (wid L) c Ic)
    {g : S41728.Idx → Elt F .f32} (hg : Filled Tb Ic 163 0 g) (h : ℕ) (hh : h < 16) {f : S5341184.Idx → Elt F .f32}
    {sm : DmaSem sig} (hsm : (SemLoc.dma sm : SemLoc sig).isScoped .scVector = true)
    {offS : Fin 1 → ℕ} {hoS : ∀ a, offS a + S2608.size a ≤ S41728.size a} (hS : offS 0 = h * 2608)
    {off : Fin 1 → ℕ} {ho : ∀ a, off a + S2608.size a ≤ S5341184.size a} (hD : off 0 = h * 333824 + (wid L * 10432 + c * 2608))
    {h1 h4 : (sG.slice (Rect.unit (s := S41728) offS S2608.size hoS) (fun _ => rfl)).view.WordExact}
    {h2 h5 : (oV.slice (Rect.unit (s := S5341184) off S2608.size ho) (fun _ => rfl)).view.WordExact}
    {h3 : (DmaTarget.here (oV.slice (Rect.unit (s := S5341184) off S2608.size ho) (fun _ => rfl)) : DmaTarget nD τ sig (thr d L).2 _ _ _).Typed .vmem (.dma sm)}
    {k : PUnit → PUnit → Prog (TpuEff nD τ sig (Elt F) Λ₀ (thr d L).2) α} (hf : Placed Tb I (wid L) c h f) :
    iprop(Transfers.MayWaits (thr d L) (none : HIx 1) O)
      ⊢ iprop((sG.view.loc (thr d L) ↦{fullShare} g) -∗ (oV.view.loc (thr d L) ↦[part (wid L)]{fullShare} f)
        -∗ ownSems0 (thr d L) -∗ Owed d L O W
        -∗ (∀ f', ⌜Placed Tb I (wid L) c (h + 1) f'⌝ -∗ (sG.view.loc (thr d L) ↦{fullShare} g)
          -∗ (oV.view.loc (thr d L) ↦[part (wid L)]{fullShare} f')
          -∗ ownSems0 (thr d L) -∗ Owed d L O W
          -∗ wp frame (wpE (defs₀ (F := F)) 𝒱₀ (thr d L) none) Set.univ (k ⟨⟩ ⟨⟩) Q)
        -∗ wp frame (wpE (defs₀ (F := F)) 𝒱₀ (thr d L) none) Set.univ
          (.op (.enqueueDma (sG.slice (Rect.unit (s := S41728) offS S2608.size hoS) (fun _ => rfl))
              (.here (oV.slice (Rect.unit (s := S5341184) off S2608.size ho) (fun _ => rfl))) (.dma sm) h1 h2 h3) fun x =>
            .op (.waitDma2 sm (sG.slice (Rect.unit (s := S41728) offS S2608.size hoS) (fun _ => rfl))
              (oV.slice (Rect.unit (s := S5341184) off S2608.size ho) (fun _ => rfl)) h4 h5) (k x)) Q) := by
  iintro Hmw Hg Hf Hs HO Hk
  iapply (wp_copy d L (src := sG.slice (Rect.unit (s := S41728) offS S2608.size hoS) (fun _ => rfl))
    (dst := oV.slice (Rect.unit (s := S5341184) off S2608.size ho) (fun _ => rfl)) hsm (show 0 < S2608.numel by decide) (Ss := Finset.univ) (Sd := part (wid L)) (fs := g) (fd := f) (q := fullShare)
    (Finset.subset_univ _) (row_subset L hc hh hD)) $$ [Hmw Hg Hf Hs HO]
  · isplitl [Hmw]; · iexact Hmw
    isplitl [Hg]; · iexact Hg
    isplitl [Hf]; · iexact Hf
    isplitl [Hs] <;> iassumption
  iintro Hg Hf Hs HO
  have hp := hf.store (wid_lt L) hc hIc hg (off := off) (ho := ho) hD
    ((sG.slice (Rect.unit (s := S41728) offS S2608.size hoS) (fun _ => rfl)).view.read (Elt F) g) (fun y =>
      ⟨(Rect.unit (s := S41728) offS S2608.size hoS).emb y, by show offS 0 + 1 * (y 0).val = _; rw [hS, Nat.one_mul],
        (View.read_apply _ _).trans (cast_eq _ _)⟩)
  iapply Hk $$ %_ %hp Hg Hf Hs HO

/-- What a subcore holds before chunk `t`. -/
def inv1 (q : PosShare TreeShare) (Tb : S35392.Idx → Elt F .f32) (I : S333824.Idx → Elt F .i32) (O : CellTallies nD τ sig (HIx 1)) (W : Waits sig (HIx 1))
    (t : ℕ) (_ : PUnit) : sProp 𝕄 :=
  iprop(Transfers.MayWaits (thr d L) (none : HIx 1) O ∗ (iV.view.loc (thr d L) ↦{q} I) ∗ (sT.view.loc (thr d L) ↦{fullShare} Tb)
    ∗ (∃ Ic, sI.view.loc (thr d L) ↦{fullShare} Ic) ∗ (∃ g, sG.view.loc (thr d L) ↦{fullShare} g)
    ∗ (∃ f, ⌜Placed Tb I (wid L) t 0 f⌝ ∗ (oV.view.loc (thr d L) ↦[part (wid L)]{fullShare} f))
    ∗ ownSems0 (thr d L) ∗ Owed d L O W)

/-- The indices a chunk's fetch reads. -/
theorem chunk_read (I : S333824.Idx → Elt F .i32) (t : Fin k0_t1_loop.trips) :
    Chunk (F := F) I (wid L) t.val
      ((iV.slice (Rect.unit (s := S333824) (k0_off1 L t) S2608.size (k0_off1_inb L t)) (fun _ => rfl)).view.read (Elt F) I) := by
  intro x k hk
  refine ((View.read_apply _ _).trans (cast_eq _ _)).trans ?_
  refine congrArg I (funext fun (a : Fin 1) => Fin.ext ?_)
  obtain rfl : a = 0 := Subsingleton.elim _ _
  rw [hk, ← off1_val, ← Nat.one_mul (x 0).val]
  rfl

theorem Chunk.lt {I : S333824.Idx → Elt F .i32} (hI : ∀ k, (I k).toNat < 2212) {w c : ℕ} (hc : c < 4) (hw : w < 32) {Ic : S2608.Idx → Elt F .i32}
    (hIc : Chunk (F := F) I w c Ic) (k : S2608.Idx) : (Ic k : BitVec 32).toNat < 2212 := by
  have hk : (k 0).val < 2608 := (k 0).isLt
  rw [hIc k (Shape.ofLane (d := S333824.size) ⟨w * 10432 + c * 2608 + (k 0).val, show w * 10432 + c * 2608 + (k 0).val < 333824 by omega⟩) rfl]
  exact hI _

theorem Filled.zero (Tb : S35392.Idx → Elt F .f32) (I : S2608.Idx → Elt F .i32) (g : S41728.Idx → Elt F .f32) : Filled Tb I 0 0 g := by
  intro j k a h hj hk ha
  rw [if_neg (Nat.not_lt_zero _)] at hk
  exact absurd hk (Nat.not_lt_zero _)

set_option maxHeartbeats 1000000 in
/-- One chunk. -/
theorem body1 {q : PosShare TreeShare} {Tb : S35392.Idx → Elt F .f32} {I : S333824.Idx → Elt F .i32} (hI : ∀ k, (I k).toNat < 2212)
    {O : CellTallies nD τ sig (HIx 1)} {W : Waits sig (HIx 1)} (v2 : BitVec 32) (t : Fin k0_t1_loop.trips) :
    inv1 d L q Tb I O W t.val ⟨⟩ ⊢ wp frame (wpE (defs₀ (F := F)) 𝒱₀ (thr d L) none) Set.univ
      (k0_t1_body L tV (Memref.isWhole_whole _) iV (Memref.isWhole_whole _) oV (Memref.isWhole_whole _) sT (Memref.isWhole_whole _)
        sI (Memref.isWhole_whole _) sG (Memref.isWhole_whole _) cc0_scoped0 cc0_scoped1 cc0_scoped2 cc0_scoped3 cc0_scoped4 cc0_scoped5
        cc0_scoped6 cc0_scoped7 cc0_scoped8 cc0_scoped9 cc0_scoped10 cc0_scoped11 cc0_scoped12 cc0_scoped13 cc0_scoped14 cc0_scoped15
        cc0_scoped16 cc0_scoped17 v2 t ⟨⟩) fun _ => inv1 d L q Tb I O W (t.val + 1) ⟨⟩ := by
  unfold k0_t1_body
  simp only [k0_part4_eq_skeleton, k0_part5_eq_skeleton, k0_part6_eq_skeleton, k0_part7_eq_skeleton]
  unfold k0_part4_skel k0_part5_skel k0_part6_skel k0_part7_skel
  simp only [Prog.lift, Prog.bind_op, Prog.bind_ret, Prog.pure_eq_ret, bind_assoc]
  have ht : t.val < 4 := trips1 ▸ t.isLt
  have hD := off19_val L t
  unfold inv1
  iintro ⟨#Hmw, Hi, Ht, ⟨%Ic, HI⟩, ⟨%g, Hg⟩, ⟨%f, %hf, Hf⟩, Hs, HO⟩
  iapply (wp_copy d L (sm := cc0_scoped1.sem) (by decide) (show 0 < S2608.numel by decide) (Ss := Finset.univ) (Sd := Finset.univ) (fs := I) (fd := Ic) (q := q)
    (Finset.subset_univ _) (Finset.subset_univ _)) $$ [Hi HI Hs HO]
  · isplitr; · iexact Hmw
    isplitl [Hi]; · iexact Hi
    isplitl [HI]; · iexact HI
    isplitl [Hs] <;> iassumption
  iintro Hi HI Hs HO
  have hIc := chunk_read (F := F) L I t
  have hIlt : ∀ k, ((iV.slice (Rect.unit (s := S333824) (k0_off1 L t) S2608.size (k0_off1_inb L t)) (fun _ => rfl)).view.read (Elt F) I k : BitVec 32).toNat < 2212 :=
    fun k => hIc.lt hI ht (wid_lt L) k
  rw [show sI.view.write (Elt F) Ic ((iV.slice (Rect.unit (s := S333824) (k0_off1 L t) S2608.size (k0_off1_inb L t)) (fun _ => rfl)).view.read (Elt F) I) Finset.univ
    = (iV.slice (Rect.unit (s := S333824) (k0_off1 L t) S2608.size (k0_off1_inb L t)) (fun _ => rfl)).view.read (Elt F) I from View.write_whole_univ _ _ _]
  generalize (iV.slice (Rect.unit (s := S333824) (k0_off1 L t) S2608.size (k0_off1_inb L t)) (fun _ => rfl)).view.read (Elt F) I = Jc at hIc hIlt ⊢
  sl_for (inv2 d L Tb Jc) $$ [Ht HI Hg]
  case region =>
    intro k _
    exact body2 d L hIlt _ _ _ t k
  · unfold inv2
    isplitl [Ht]; · iexact Ht
    isplitl [HI]; · iexact HI
    iexists g; isplitr
    · ipureintro; exact Filled.zero Tb Jc g
    · iexact Hg
  iintro %_ HI
  unfold inv2
  icases HI with ⟨Ht, HI, %g', %hg, Hg⟩
  have e : Scf.trips k0_t2_loop.lb k0_t2_loop.ub k0_t2_loop.st = 163 := trips2
  rw [e] at hg
  iapply (wp_out d L ht hIc hg 0 (by decide) (sm := cc0_scoped2.sem) (by decide) (offS := ![0]) rfl (hD 0) hf) $$ Hmw Hg Hf Hs HO
  clear hf; iintro %f %hf Hg Hf Hs HO
  iapply (wp_out d L ht hIc hg 1 (by decide) (sm := cc0_scoped3.sem) (by decide) (offS := ![2608]) rfl (hD 1) hf) $$ Hmw Hg Hf Hs HO
  clear hf; iintro %f %hf Hg Hf Hs HO
  iapply (wp_out d L ht hIc hg 2 (by decide) (sm := cc0_scoped4.sem) (by decide) (offS := ![5216]) rfl (hD 2) hf) $$ Hmw Hg Hf Hs HO
  clear hf; iintro %f %hf Hg Hf Hs HO
  iapply (wp_out d L ht hIc hg 3 (by decide) (sm := cc0_scoped5.sem) (by decide) (offS := ![7824]) rfl (hD 3) hf) $$ Hmw Hg Hf Hs HO
  clear hf; iintro %f %hf Hg Hf Hs HO
  iapply (wp_out d L ht hIc hg 4 (by decide) (sm := cc0_scoped6.sem) (by decide) (offS := ![10432]) rfl (hD 4) hf) $$ Hmw Hg Hf Hs HO
  clear hf; iintro %f %hf Hg Hf Hs HO
  iapply (wp_out d L ht hIc hg 5 (by decide) (sm := cc0_scoped7.sem) (by decide) (offS := ![13040]) rfl (hD 5) hf) $$ Hmw Hg Hf Hs HO
  clear hf; iintro %f %hf Hg Hf Hs HO
  iapply (wp_out d L ht hIc hg 6 (by decide) (sm := cc0_scoped8.sem) (by decide) (offS := ![15648]) rfl (hD 6) hf) $$ Hmw Hg Hf Hs HO
  clear hf; iintro %f %hf Hg Hf Hs HO
  iapply (wp_out d L ht hIc hg 7 (by decide) (sm := cc0_scoped9.sem) (by decide) (offS := ![18256]) rfl (hD 7) hf) $$ Hmw Hg Hf Hs HO
  clear hf; iintro %f %hf Hg Hf Hs HO
  iapply (wp_out d L ht hIc hg 8 (by decide) (sm := cc0_scoped10.sem) (by decide) (offS := ![20864]) rfl (hD 8) hf) $$ Hmw Hg Hf Hs HO
  clear hf; iintro %f %hf Hg Hf Hs HO
  iapply (wp_out d L ht hIc hg 9 (by decide) (sm := cc0_scoped11.sem) (by decide) (offS := ![23472]) rfl (hD 9) hf) $$ Hmw Hg Hf Hs HO
  clear hf; iintro %f %hf Hg Hf Hs HO
  iapply (wp_out d L ht hIc hg 10 (by decide) (sm := cc0_scoped12.sem) (by decide) (offS := ![26080]) rfl (hD 10) hf) $$ Hmw Hg Hf Hs HO
  clear hf; iintro %f %hf Hg Hf Hs HO
  iapply (wp_out d L ht hIc hg 11 (by decide) (sm := cc0_scoped13.sem) (by decide) (offS := ![28688]) rfl (hD 11) hf) $$ Hmw Hg Hf Hs HO
  clear hf; iintro %f %hf Hg Hf Hs HO
  iapply (wp_out d L ht hIc hg 12 (by decide) (sm := cc0_scoped14.sem) (by decide) (offS := ![31296]) rfl (hD 12) hf) $$ Hmw Hg Hf Hs HO
  clear hf; iintro %f %hf Hg Hf Hs HO
  iapply (wp_out d L ht hIc hg 13 (by decide) (sm := cc0_scoped15.sem) (by decide) (offS := ![33904]) rfl (hD 13) hf) $$ Hmw Hg Hf Hs HO
  clear hf; iintro %f %hf Hg Hf Hs HO
  iapply (wp_out d L ht hIc hg 14 (by decide) (sm := cc0_scoped16.sem) (by decide) (offS := ![36512]) rfl (hD 14) hf) $$ Hmw Hg Hf Hs HO
  clear hf; iintro %f %hf Hg Hf Hs HO
  iapply (wp_out d L ht hIc hg 15 (by decide) (sm := cc0_scoped17.sem) (by decide) (offS := ![39120]) rfl (hD 15) hf) $$ Hmw Hg Hf Hs HO
  clear hf; iintro %f %hf Hg Hf Hs HO
  sl_step
  isplitr; · iexact Hmw
  isplitl [Hi]; · iexact Hi
  isplitl [Ht]; · iexact Ht
  isplitl [HI]; · iexists _; iexact HI
  isplitl [Hg]; · iexists _; iexact Hg
  isplitl [Hf]
  · iexists f; isplitr; · ipureintro; exact hf.next
    iexact Hf
  isplitl [Hs] <;> iassumption

theorem Placed.zero (Tb : S35392.Idx → Elt F .f32) (I : S333824.Idx → Elt F .i32) (w : ℕ) (f : S5341184.Idx → Elt F .f32) : Placed Tb I w 0 0 f := by
  intro j hj hk
  rw [if_neg (Nat.not_lt_zero _)] at hk
  have := mem_part.mp hj
  omega

/-- After the last chunk every entry of the subcore's is in place. -/
theorem Placed.all {Tb : S35392.Idx → Elt F .f32} {I : S333824.Idx → Elt F .i32} {w : ℕ} {f : S5341184.Idx → Elt F .f32} (hf : Placed Tb I w 4 0 f) :
    ∀ j ∈ part w, GatherAt Tb I j (f j) := by
  intro j hj
  refine hf j hj ?_
  rw [if_neg (Nat.not_lt_zero _)]
  have := mem_part.mp hj
  omega

omit [FloatOps F] in
/-- The three scratch buffers are among the subcore's own: they, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  have own (b : Ref sig .scVector) (hb : ((Proc.scVector (cV L) (jV L)).devRef b).owner = .proc (.scVector (cV L) (jV L))) :=
    SparseCore.Cfg.mem_ownRefs_of_owner (p := Proc.scVector (cV L) (jV L)) (b := (Proc.scVector (cV L) (jV L)).devRef b) hb
  have ne {b b' : Ref sig .scVector} (h : b ≠ b') : (Proc.scVector (cV L) (jV L)).devRef b ≠ (Proc.scVector (cV L) (jV L)).devRef b' :=
    fun e => h (Proc.devRef_injective _ e)
  unfold SparseCore.Cfg.ownBufs
  refine (SparseCore.bigSep_erase' (own cc0_scratch0 rfl)).trans ?_
  rw [SparseCore.bigSep_erase' (Finset.mem_erase.mpr ⟨ne (show cc0_scratch1 ≠ cc0_scratch0 by decide), own cc0_scratch1 rfl⟩),
    SparseCore.bigSep_erase' (Finset.mem_erase.mpr ⟨ne (show cc0_scratch2 ≠ cc0_scratch1 by decide),
      Finset.mem_erase.mpr ⟨ne (show cc0_scratch2 ≠ cc0_scratch0 by decide), own cc0_scratch2 rfl⟩⟩)]

set_option maxHeartbeats 1000000 in
/-- The whole task. -/
theorem tile_body (hF : (K (F := F)).Facts) {q q' : PosShare TreeShare} {Tb : S35392.Idx → Elt F .f32} {I : S333824.Idx → Elt F .i32}
    (hI : ∀ k, (I k).toNat < 2212) {f₀ : S5341184.Idx → Elt F .f32}
    (O : CellTallies nD τ sig (HIx 1)) (W : Waits sig (HIx 1)) (hO : ∀ g, O g none = 0) :
    (iprop(levAts (K (F := F)).L (K (F := F)).lev
        ∗ ((tLoc d ↦{q} Tb) ∗ (iLoc d ↦{q'} I) ∗ (oLoc d ↦[part (wid L)]{fullShare} f₀))
        ∗ scopedBufs (thr d L) ∗ scopedSems0 (thr d L) ∗ owes (thr d L) O W) : sProp 𝕄)
      ⊢ wp frame (wpE (defs₀ (F := F)) 𝒱₀ (thr d L) none) Set.univ
          (cc0_sc_kernel L tV (Memref.isWhole_whole _) iV (Memref.isWhole_whole _) oV (Memref.isWhole_whole _) sT (Memref.isWhole_whole _)
            sI (Memref.isWhole_whole _) sG (Memref.isWhole_whole _) cc0_scoped0 cc0_scoped1 cc0_scoped2 cc0_scoped3 cc0_scoped4 cc0_scoped5
            cc0_scoped6 cc0_scoped7 cc0_scoped8 cc0_scoped9 cc0_scoped10 cc0_scoped11 cc0_scoped12 cc0_scoped13 cc0_scoped14 cc0_scoped15
            cc0_scoped16 cc0_scoped17)
          fun _ => iprop(((tLoc d ↦{q} Tb) ∗ (iLoc d ↦{q'} I)
              ∗ ∃ f, ⌜∀ j ∈ part (wid L), GatherAt Tb I j (f j)⌝ ∗ (oLoc d ↦[part (wid L)]{fullShare} f))
            ∗ scopedBufs (thr d L) ∗ scopedSems0 (thr d L) ∗ ∃ W', ⌜∀ p ∈ W', p ∈ W ∨ p.2 = none⌝ ∗ owes (thr d L) O W') := by
  simp only [cc0_sc_kernel_eq_skeleton]; unfold cc0_sc_kernel_skel
  simp only [Prog.lift, Prog.bind_op, Prog.bind_ret, Prog.pure_eq_ret, bind_assoc]
  rw [(K (F := F)).scopedBufs_V hF d (cV L) (jV L), SparseCore.Cfg.scopedSems0_V (Val := Elt F) d (cV L) (jV L), ownBufs_V]
  iintro ⟨#Hlv, ⟨Ht, Hi, Ho⟩, ⟨⟨%s0, Hs0⟩, ⟨%s1, Hs1⟩, ⟨%s2, Hs2⟩, Hbufs⟩, Hs, HO⟩
  have hmw : (levAts (K (F := F)).L (K (F := F)).lev : sProp 𝕄) ⊢ Transfers.MayWaits (thr d L) (none : HIx 1) O := (K (F := F)).mayWaits_none hO
  ihave Hmw := hmw $$ Hlv
  icases Hmw with #Hmw
  iapply (wp_copy d L (src := tV) (dst := sT) (sm := cc0_scoped0.sem) (W := W) (by decide) (show 0 < S35392.numel by decide) (Ss := Finset.univ) (Sd := Finset.univ) (fs := Tb) (fd := s0) (q := q)
    (Finset.subset_univ _) (Finset.subset_univ _)) $$ [Ht Hs0 Hs HO]
  · isplitr; · iexact Hmw
    isplitl [Ht]; · iexact Ht
    isplitl [Hs0]; · iexact Hs0
    isplitl [Hs]; · iexact Hs
    unfold Owed; iexists W; isplitr
    · ipureintro; exact fun p hp => .inl hp
    · iexact HO
  iintro Ht Hs0 Hs HO
  rw [show sT.view.write (Elt F) s0 (tV.view.read (Elt F) Tb) Finset.univ = Tb from
    (View.write_whole_univ _ _ _).trans (View.read_whole (Val := Elt F) (b := (main_v39_scv : Ref sig .scVector)) (f := Tb))]
  sl_for (inv1 d L q' Tb I O W) $$ [Hi Hs0 Hs1 Hs2 Ho Hs HO]
  case region =>
    intro k _
    exact body1 d L hI _ k
  · unfold inv1
    isplitr; · iexact Hmw
    isplitl [Hi]; · iexact Hi
    isplitl [Hs0]; · iexact Hs0
    isplitl [Hs1]; · iexists _; iexact Hs1
    isplitl [Hs2]; · iexists _; iexact Hs2
    isplitl [Ho]
    · iexists f₀; isplitr; · ipureintro; exact Placed.zero Tb I (wid L) f₀
      iexact Ho
    isplitl [Hs] <;> iassumption
  iintro %_ HI
  have e : Scf.trips k0_t1_loop.lb k0_t1_loop.ub k0_t1_loop.st = 4 := trips1
  rw [e]
  unfold inv1
  icases HI with ⟨-, Hi, Hs0, ⟨%s1, Hs1⟩, ⟨%s2, Hs2⟩, ⟨%f, %hf, Ho⟩, Hs, HO⟩
  sl_step
  isplitl [Ht Hi Ho]
  · isplitl [Ht]; · iexact Ht
    isplitl [Hi]; · iexact Hi
    iexists f; isplitr; · ipureintro; exact hf.all
    iexact Ho
  isplitl [Hs0 Hs1 Hs2 Hbufs]
  · isplitl [Hs0]; · iexists _; iexact Hs0
    isplitl [Hs1]; · iexists _; iexact Hs1
    isplitl [Hs2]; · iexists _; iexact Hs2
    iexact Hbufs
  isplitl [Hs]; · iexact Hs
  unfold Owed; iexact HO

end Body

end Cert.Proof.OfKernelIdeal
-- ==== Proof.KernelIdealAdd.lean ====
/-
  The dense half of the program: the gathered bias added to the four batch entries, block by block. This module holds the
  values: what each block of the three windows is, what the body computes from them, and that the blocks together are the
  sum of the two arrays, entry by entry. The last block of each row overhangs both arrays; the one of the gathered array
  reaches further, so that all the entries written back are sums of entries that were fetched.
-/
module

public import proofs.«01_k».proof.Proof.KernelIdealBase
public import proofs.«01_k».proof.Proof.Gen.KernelIdeal.Launch
public import proofs.«01_k».proof.Proof.Gen.KernelIdeal.Points
public import Idealize.ShloMosaic.Lib.Pipeline.Value
public import Idealize.ShloMosaic.Lib.Pipeline.FrameBody
public import Idealize.ShloMosaic.Lib.Pipeline.ValueKit.Basic
public import Idealize.ShloMosaic.Lib.Pipeline.Covers

@[expose] public section

noncomputable section

namespace Cert.Proof.OfKernelIdeal

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window Clip BodyObligationLoose)

variable {F : FTy → Type} [FloatOps F]

local notation "𝕄" => MT nD τ sig (HIx 1) (Elt F) ℕ UU ℕ

/-! ## Where the blocks lie -/

theorem tr0_eq (i : grid1.Coords) : cc1_transform_0 i = ![(i 1).val, 0, (i 0).val] := by
  have h0 : (i 0).val < 21 := (i 0).isLt
  have h1 : (i 1).val < 4 := (i 1).isLt
  have e0 : (BitVec.ofNat 32 (i 0).val).toNat = (i 0).val := by rw [BitVec.toNat_ofNat]; exact Nat.mod_eq_of_lt (by omega)
  have e1 : (BitVec.ofNat 32 (i 1).val).toNat = (i 1).val := by rw [BitVec.toNat_ofNat]; exact Nat.mod_eq_of_lt (by omega)
  show ![(BitVec.ofNat 32 (i 1).val).toNat, 0, (BitVec.ofNat 32 (i 0).val).toNat] = _
  rw [e0, e1]

theorem tr1_eq (i : grid1.Coords) : cc1_transform_1 i = ![0, (i 0).val] := by
  have h0 : (i 0).val < 21 := (i 0).isLt
  have e0 : (BitVec.ofNat 32 (i 0).val).toNat = (i 0).val := by rw [BitVec.toNat_ofNat]; exact Nat.mod_eq_of_lt (by omega)
  show ![0, (BitVec.ofNat 32 (i 0).val).toNat] = _
  rw [e0]

/-- How much of a block lies inside the array. -/
theorem extent_of (b k d : ℕ) : (Clip.of b k d).extent k = if (b + 1) * k ≤ d then k else d - b * k := by
  unfold Clip.of; split <;> rfl

theorem xsize2_0 (i : grid1.Coords) : win1_2.xsize i 0 = 1 := by
  have h1 : (i 1).val < 4 := (i 1).isLt
  show (Clip.of (cc1_transform_0 i 0) 1 4).extent 1 = 1
  rw [tr0_eq, extent_of]; show (if ((i 1).val + 1) * 1 ≤ 4 then 1 else 4 - (i 1).val * 1) = 1
  rw [if_pos (by omega)]
theorem xsize2_1 (i : grid1.Coords) : win1_2.xsize i 1 = 16 := by
  show (Clip.of (cc1_transform_0 i 1) 16 16).extent 16 = 16
  rw [tr0_eq, extent_of]; exact if_pos (by show (0 + 1) * 16 ≤ 16; omega)
theorem xsize2_2 (i : grid1.Coords) :
    win1_2.xsize i 2 = if ((i 0).val + 1) * 16384 ≤ 332929 then 16384 else 332929 - (i 0).val * 16384 := by
  show (Clip.of (cc1_transform_0 i 2) 16384 332929).extent 16384 = _
  rw [tr0_eq, extent_of]; rfl
theorem xsize1_0 (i : grid1.Coords) : win1_1.xsize i 0 = 16 := by
  show (Clip.of (cc1_transform_1 i 0) 16 16).extent 16 = 16
  rw [tr1_eq, extent_of]; exact if_pos (by show (0 + 1) * 16 ≤ 16; omega)
theorem xsize1_1 (i : grid1.Coords) :
    win1_1.xsize i 1 = if ((i 0).val + 1) * 16384 ≤ 333824 then 16384 else 333824 - (i 0).val * 16384 := by
  show (Clip.of (cc1_transform_1 i 1) 16384 333824).extent 16384 = _
  rw [tr1_eq, extent_of]; rfl

/-- A written entry's place in the block of the gathered array. -/
def low1 {i : grid1.Coords} (y : (win1_2.xblock i).Idx) : (win1_1.xblock i).Idx := fun a => ⟨(y a.succ).val, by
  match a with
  | 0 =>
    show (y 1).val < win1_1.xsize i 0
    have h : (y 1).val < win1_2.xsize i 1 := (y 1).isLt
    rw [xsize2_1] at h; rw [xsize1_0]; exact h
  | 1 =>
    show (y 2).val < win1_1.xsize i 1
    have h : (y 2).val < win1_2.xsize i 2 := (y 2).isLt
    rw [xsize2_2] at h; rw [xsize1_1]
    split at h <;> split <;> omega⟩

/-- Where the gathered array holds what is added to entry `i`. -/
def under (i : S4x16x332929.Idx) : S16x333824.Idx := fun
  | 0 => ⟨(i 1).val, (i 1).isLt⟩
  | 1 => ⟨(i 2).val, Nat.lt_of_lt_of_le (i 2).isLt (by decide : 332929 ≤ 333824)⟩

/-! ## What the body computes -/

theorem pay1_apply (X : S1x16x16384.Idx → Elt F .f32) (Y : S16x16384.Idx → Elt F .f32) (j : S1x16x16384.Idx) :
    k1_pay1 X Y j = FloatOps.addf (X j) (Y fun a => j a.succ) := by
  unfold k1_pay1
  show FloatOps.addf (shapeCast S1x16x16384 X shapeCasts_S1x16x16384_S1x16x16384 j)
    (shapeCast S1x16x16384 (shapeCast S16x16384 Y shapeCasts_S16x16384_S16x16384) shapeCasts_S16x16384_S1x16x16384 j) = _
  rw [shapeCast_self, shapeCast_self]
  exact congrArg _ (shapeCast_addUnit_apply ![16, 16384] Y shapeCasts_S16x16384_S1x16x16384 j)

variable (V : (c : Dev nD) → (b : Ref sig .tc) → Buf (Elt F) ((c : Thread nD τ).loc b))

/-- The two blocks fetched at a point, and the block of their sums that is written back. -/
def blk3 (c : Dev nD) (t : Fin cfg1.N) : (win1_0.xblock (grid1.coords t)).Idx → Elt F .f32 :=
  (win1_0.blk t).view.read (Elt F) (V c main_v42)
def blk2 (c : Dev nD) (t : Fin cfg1.N) : (win1_1.xblock (grid1.coords t)).Idx → Elt F .f32 :=
  (win1_1.blk t).view.read (Elt F) (V c main_v41)
def blk4 (c : Dev nD) (t : Fin cfg1.N) : (win1_2.xblock (grid1.coords t)).Idx → Elt F .f32 :=
  fun y => FloatOps.addf (blk3 V c t y) (blk2 V c t (low1 y))

/-- Whatever the staging buffers hold past the arrays' ends, the part of the body's result that is written back is the
    block of sums. -/
theorem cut_pay1 (c : Dev nD) (t : Fin cfg1.N) (d0 : S1x16x16384.Idx → Elt F .f32) (d1 : S16x16384.Idx → Elt F .f32) :
    win1_2.cut (grid1.coords t) (k1_pay1 (win1_0.fill (grid1.coords t) d0 (blk3 V c t)) (win1_1.fill (grid1.coords t) d1 (blk2 V c t)))
      = blk4 V c t := by
  funext y
  show k1_pay1 _ _ (win1_2.xinj (grid1.coords t) y) = FloatOps.addf _ _
  rw [pay1_apply]
  have e0 : win1_0.fill (grid1.coords t) d0 (blk3 V c t) (win1_2.xinj (grid1.coords t) y) = blk3 V c t y :=
    win1_0.fill_xinj (grid1.coords t) d0 (blk3 V c t) y
  have e1 : win1_1.fill (grid1.coords t) d1 (blk2 V c t) (fun a => win1_2.xinj (grid1.coords t) y a.succ) = blk2 V c t (low1 y) :=
    win1_1.fill_xinj (grid1.coords t) d1 (blk2 V c t) (low1 y)
  exact congrArg₂ _ e0 e1

/-! ## The proof data of the region -/

/-- The pairs the core's waits may have recorded by then: those at the level of the one SparseCore call. -/
def seen (c : Dev nD) : Set (SemLoc sig × HIx 1) :=
  {p | (K (F := F)).lev ((c : Thread nD τ), p.1) p.2 ≤ 8 * SparseCore.Cfg.Blocks.fst (Q := 1) (N := 1) 1}

/-- The staging buffers after the body: what was fetched, and the sums; past the arrays' ends a word nothing reads. -/
def dat (c : Dev nD) : Dat τ (Elt F) (HIx 1) ℕ UU ℕ cfg1 c where
  A w := V c (Pipeline.arrRef spec1 w)
  after w t := match w with
    | ⟨0, _⟩ => win1_0.fill (grid1.coords t) (fun _ => Scalar.ofBits .f32 0#32) (blk3 V c t)
    | ⟨1, _⟩ => win1_1.fill (grid1.coords t) (fun _ => Scalar.ofBits .f32 0#32) (blk2 V c t)
    | ⟨2, _⟩ => win1_2.fill (grid1.coords t) (fun _ => Scalar.ofBits .f32 0#32) (blk4 V c t)
  Φ _ := iprop(emp)
  q _ := fullShare
  owed _ := 0
  recorded _ := seen (F := F) c

theorem before0 (c : Dev nD) (t : Fin cfg1.N) (d : S1x16x16384.Idx → Elt F .f32) :
    (dat V c).before (0 : Fin 3) t d = win1_0.fill (grid1.coords t) d (blk3 V c t) := by
  unfold Dat.before; rw [if_pos (fetch1_0 t)]; rfl

theorem before1 (c : Dev nD) (t : Fin cfg1.N) (d : S16x16384.Idx → Elt F .f32) :
    (dat V c).before (1 : Fin 3) t d = win1_1.fill (grid1.coords t) d (blk2 V c t) :=
  (dat V c).before_in_eq_fetched (1 : Fin 3) rfl (fun _ => rfl)
    (fun t t' h => by
      show (fun a => Clip.of (win1_1.index t a) (S16x16384.size a) (S16x333824.size a))
        = fun a => Clip.of (win1_1.index t' a) (S16x16384.size a) (S16x333824.size a)
      rw [show win1_1.index t = win1_1.index t' from h])
    (fun t => win1_1.cut_fill (grid1.coords t) _ (blk2 V c t)) t d

theorem before2 (c : Dev nD) (t : Fin cfg1.N) (d : S1x16x16384.Idx → Elt F .f32) : (dat V c).before (2 : Fin 3) t d = d := by
  have hf : (cfg1.win (2 : Fin 3)).fetch t = false := rfl
  unfold Dat.before
  rw [if_neg (by rw [hf]; exact Bool.false_ne_true)]
  by_cases h : t.val = 0
  · exact if_pos h
  · rw [if_neg h]; exact if_pos (flush1_2 _)

/-! ## The sum -/

/-- The sums as one array. -/
def sums (c : Dev nD) : S4x16x332929.Idx → Elt F .f32 :=
  fun i => FloatOps.addf (V c main_v42 i) (V c main_v41 (under i))

theorem flushed2 (c : Dev nD) (t : Fin cfg1.N) :
    (dat V c).flushed (2 : Fin 3) t = (win1_2.blk t).view.read (Elt F) (sums V c) := by
  have e : (dat V c).flushed (2 : Fin 3) t = blk4 V c t := win1_2.cut_fill (grid1.coords t) _ (blk4 V c t)
  rw [e]
  funext y
  have e2 : (win1_1.rect t).emb (low1 y) = under ((win1_2.rect t).emb y) := by
    funext a
    match a with
    | 0 =>
      refine Fin.ext ((win1_1.rect_emb_val t (low1 y) 0).trans ?_)
      show _ = ((win1_2.rect t).emb y 1).val
      rw [win1_2.rect_emb_val t y 1]
      show cc1_transform_1 (grid1.coords t) 0 * 16 + (y 1).val = cc1_transform_0 (grid1.coords t) 1 * 16 + (y 1).val
      rw [tr0_eq, tr1_eq]; rfl
    | 1 =>
      refine Fin.ext ((win1_1.rect_emb_val t (low1 y) 1).trans ?_)
      show _ = ((win1_2.rect t).emb y 2).val
      rw [win1_2.rect_emb_val t y 2]
      show cc1_transform_1 (grid1.coords t) 1 * 16384 + (y 2).val = cc1_transform_0 (grid1.coords t) 2 * 16384 + (y 2).val
      rw [tr0_eq, tr1_eq]; rfl
  show FloatOps.addf (V c main_v42 ((win1_2.rect t).emb y)) (V c main_v41 ((win1_1.rect t).emb (low1 y)))
    = FloatOps.addf (V c main_v42 ((win1_2.rect t).emb y)) (V c main_v41 (under ((win1_2.rect t).emb y)))
  rw [e2]

/-- Every entry lies in the block of one point. -/
theorem covered (i : S4x16x332929.Idx) : ∃ t : Fin cfg1.N, (cfg1.win (2 : Fin 3)).flush t = true ∧ i ∈ (win1_2.blk t).view.set := by
  have h0 : (i 0).val < 4 := (i 0).isLt
  have h1 : (i 1).val < 16 := (i 1).isLt
  have h2 : (i 2).val < 332929 := (i 2).isLt
  obtain ⟨t, ht⟩ := Pipeline.Grid.coords_surjective grid1 fun
    | 0 => ⟨(i 2).val / 16384, show _ < 21 by omega⟩
    | 1 => ⟨(i 0).val, show _ < 4 from h0⟩
  have c0 : (grid1.coords t 0).val = (i 2).val / 16384 := by rw [ht]
  have c1 : (grid1.coords t 1).val = (i 0).val := by rw [ht]
  refine ⟨t, flush1_2 t, ?_⟩
  show i ∈ ((View.whole main_v43).slice (win1_2.rect t)).set
  rw [View.set_slice_whole, win1_2.mem_rect_iff]
  intro a
  match a with
  | 0 =>
    show cc1_transform_0 (grid1.coords t) 0 * 1 ≤ (i 0).val ∧ (i 0).val < cc1_transform_0 (grid1.coords t) 0 * 1 + win1_2.xsize (grid1.coords t) 0
    rw [xsize2_0, tr0_eq]
    show (grid1.coords t 1).val * 1 ≤ (i 0).val ∧ (i 0).val < (grid1.coords t 1).val * 1 + 1
    rw [c1]; omega
  | 1 =>
    show cc1_transform_0 (grid1.coords t) 1 * 16 ≤ (i 1).val ∧ (i 1).val < cc1_transform_0 (grid1.coords t) 1 * 16 + win1_2.xsize (grid1.coords t) 1
    rw [xsize2_1, tr0_eq]
    show 0 * 16 ≤ (i 1).val ∧ (i 1).val < 0 * 16 + 16
    omega
  | 2 =>
    show cc1_transform_0 (grid1.coords t) 2 * 16384 ≤ (i 2).val ∧ (i 2).val < cc1_transform_0 (grid1.coords t) 2 * 16384 + win1_2.xsize (grid1.coords t) 2
    rw [xsize2_2, tr0_eq]
    show (grid1.coords t 0).val * 16384 ≤ (i 2).val ∧ (i 2).val < (grid1.coords t 0).val * 16384 + _
    rw [c0]
    split <;> omega

/-- After the last point the result's array holds the sums. -/
theorem arr2 (c : Dev nD) : (dat V c).arrAt (2 : Fin 3) cfg1.N = sums V c :=
  (dat V c).arrAt_eq_of_cover (2 : Fin 3) (sums V c) (fun t _ => flushed2 V c t) covered

/-! ## The body -/

set_option maxHeartbeats 4000000 in
/-- The body on any of the windows' staging buffers: the third ends holding the sums of the other two. -/
theorem add_body (c : Dev nD) (i : grid1.Coords) (s0 s1 s2 : Fin 2)
    (X0 X2 : S1x16x16384.Idx → Elt F .f32) (X1 : S16x16384.Idx → Elt F .f32) (Q : PUnit → sProp 𝕄) :
    (iprop((owns (c : Thread nD τ) (stage1_0 s0) fullShare X0 ∗ owns (c : Thread nD τ) (stage1_1 s1) fullShare X1
            ∗ owns (c : Thread nD τ) (stage1_2 s2) fullShare X2)
          ∗ (iprop(owns (c : Thread nD τ) (stage1_0 s0) fullShare X0 ∗ owns (c : Thread nD τ) (stage1_1 s1) fullShare X1
                  ∗ owns (c : Thread nD τ) (stage1_2 s2) fullShare (k1_pay1 X0 X1)) -∗ Q ⟨⟩)) : sProp 𝕄)
      ⊢ wp frame (wpE (defs₀ (F := F)) 𝒱₀ c none) Set.univ
          (cc1__add_body i (stage1_0 s0) (hstage1_0 s0) (stage1_1 s1) (hstage1_1 s1) (stage1_2 s2) (hstage1_2 s2)) Q := by
  have hz3 : (![0, 0, 0] : Fin 3 → Nat) = fun _ => 0 := funext fun a => by fin_cases a <;> rfl
  have hz2 : (![0, 0] : Fin 2 → Nat) = fun _ => 0 := funext fun a => by fin_cases a <;> rfl
  fin_cases s0 <;> fin_cases s1 <;> fin_cases s2 <;>
  · simp only [owns_whole_eq, cc1__add_body_eq_skeleton]; unfold cc1__add_body_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    isplitl [H0]
    · iexists f0; isplitr; · ipureintro; exact hf0
      iexact H0
    isplitl [H1]
    · iexists f1; isplitr; · ipureintro; exact hf1
      iexact H1
    iexists _; isplitr; swap; · iexact H2
    ipureintro
    refine (Memref.write_access_unit_zero_univ (Elt F) _ hz3 _ _ _).trans ?_
    exact congrArg₂ k1_pay1 ((Memref.readAt_unit_zero (Elt F) _ hz3 _ _).trans hf0) ((Memref.readAt_unit_zero (Elt F) _ hz2 _ _).trans hf1)

end Cert.Proof.OfKernelIdeal

end
-- ==== Proof.KernelIdealRegion.lean ====
/-
  The dense half as a region of the program's main thread: entered holding every array, left holding every array with the
  result's at the sums.
-/
module

public import proofs.«01_k».proof.Proof.KernelIdealAdd
public import Idealize.ShloMosaic.Lib.Pipeline.RegionsLoop

@[expose] public section

noncomputable section

namespace Cert.Proof.OfKernelIdeal

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligationLoose)

variable {F : FTy → Type} [FloatOps F]

local notation "𝕄" => MT nD τ sig (HIx 1) (Elt F) ℕ UU ℕ

variable (V : (c : Dev nD) → (b : Ref sig .tc) → Buf (Elt F) ((c : Thread nD τ).loc b))

/-- The body's obligation at every point: what the staging buffers hold past the arrays' ends is never asked for. -/
theorem add_obligation (c : Dev nD) : BodyObligationLoose (dat V c) (defs₀ (F := F)) 𝒱₀ none Set.univ := fun t => by
  rw [bigSep_W1, bigSep_W1]
  simp only
  rw [show (dat V c).Φ t.succ = (dat V c).Φ t.castSucc from rfl,
    show (dat V c).owesAt none t.succ = (dat V c).owesAt none t.castSucc from rfl]
  iintro ⟨HΦ, Ho, ⟨%d0, H0⟩, ⟨%d1, H1⟩, ⟨%d2, H2⟩⟩
  rw [before0 V c t d0, before1 V c t d1, before2 V c t d2]
  have e0 : win1_0.cut (grid1.coords t) ((dat V c).after (0 : Fin 3) t) = blk3 V c t := win1_0.cut_fill _ _ _
  have e1 : win1_1.cut (grid1.coords t) ((dat V c).after (1 : Fin 3) t) = blk2 V c t := win1_1.cut_fill _ _ _
  have e2 : win1_2.cut (grid1.coords t) ((dat V c).after (2 : Fin 3) t) = blk4 V c t := win1_2.cut_fill _ _ _
  have e3 := cut_pay1 V c t d0 d1
  generalize hX0 : win1_0.fill (grid1.coords t) d0 (blk3 V c t) = X0 at e3
  generalize hX1 : win1_1.fill (grid1.coords t) d1 (blk2 V c t) = X1 at e3
  iapply (add_body (F := F) c (grid1.coords t) (cfg1.slots t 0) (cfg1.slots t 1) (cfg1.slots t 2) X0 d2 X1 _)
  isplitl [H0 H1 H2]
  · isplitl [H0]; · iexact H0
    isplitl [H1]; · iexact H1
    iexact H2
  iintro ⟨H0, H1, H2⟩
  isplitl [HΦ]; · iexact HΦ
  isplitl [Ho]; · iexact Ho
  isplitl [H0]
  · iexists d0
    change _ ⊢ owns (c : Thread nD τ) (stage1_0 (cfg1.slots t 0)) fullShare
      (win1_0.fill (grid1.coords t) d0 (win1_0.cut (grid1.coords t) ((dat V c).after (0 : Fin 3) t)))
    rw [e0, hX0]; try iexact H0
  isplitl [H1]
  · iexists d1
    change _ ⊢ owns (c : Thread nD τ) (stage1_1 (cfg1.slots t 1)) fullShare
      (win1_1.fill (grid1.coords t) d1 (win1_1.cut (grid1.coords t) ((dat V c).after (1 : Fin 3) t)))
    rw [e1, hX1]; try iexact H1
  · iexists k1_pay1 X0 X1
    change _ ⊢ owns (c : Thread nD τ) (stage1_2 (cfg1.slots t 2)) fullShare
      (win1_2.fill (grid1.coords t) (k1_pay1 X0 X1) (win1_2.cut (grid1.coords t) ((dat V c).after (2 : Fin 3) t)))
    rw [e2, ← e3, win1_2.fill_cut]; try iexact H2

/-! ## The region -/

variable (adm : (p : Fin 1) → (pcfgs (F := F) p).Adm)

def pdats : (p : Fin 1) → (c : Dev nD) → Dat τ (Elt F) (HIx 1) ℕ UU ℕ (Pipeline.pin (pcfgs (F := F)) adm p) c
  | ⟨0, _⟩ => fun c => dat V c

/-- The main thread's account of its debts between calls: none, and what its waits recorded bounded. -/
abbrev settled (c : Dev nD) : sProp 𝕄 :=
  iprop(∃ W, ⌜∀ p ∈ W, p ∈ seen (F := F) c⌝ ∗ owes (c : Thread nD τ) (0 : CellTallies nD τ sig (HIx 1)) W)

variable (V' : (c : Dev nD) → (b : Ref sig .tc) → Buf (Elt F) ((c : Thread nD τ).loc b))

set_option backward.isDefEq.respectTransparency.types false in
/-- Entered from `V`, left at any `V'` that has the sums in the result's array and is `V` elsewhere. -/
def addSeg (hout : ∀ c, V' c main_v43 = sums V c) (hne : ∀ c (b : Ref sig .tc), b ≠ main_v43 → V' c b = V c b) :
    Pipeline.RegionSeg (pcfgs (F := F)) adm (pdats V adm) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := add_obligation V c
  hwaits := Pipeline.hwaits_of_owed_zero _ _ _ _ _ _ 0 fun _ _ => rfl
  pre c := iprop(unscopedBufs c (V c) ∗ settled (F := F) c)
  post c := iprop(unscopedBufs c (V' c) ∗ settled (F := F) c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V adm) launch1.win launch1.arr_whole c
      ((pdats V adm 0 c).share_full fun _ => rfl) (V c) fun _ => rfl
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats V adm 0 c).Φ 0 = (iprop(emp) : sProp 𝕄) from rfl]
    iintro -; iempintro
  hout c := by
    rw [Pipeline.ownSems0_none, show (Pipeline.scopedRest (Ix := HIx 1) (Name := ℕ) (U := UU) (Lvl := ℕ) (Val := Elt F) (Pipeline.pin (pcfgs (F := F)) adm 0).spec c : sProp 𝕄)
      = (BI.emp : sProp 𝕄) from scopedRest1_eq c]
    iintro -
    isplitr; · iempintro
    isplitr <;> iempintro
  hexit c := by
    have hjoin := Pipeline.unscopedBufs_of_arrays (p := 0) (pcfgs (F := F)) adm (Ix := HIx 1) (Name := ℕ) (U := UU) (Lvl := ℕ) launch1.win launch1.arr_whole c
      (pdats V adm) ((pdats V adm 0 c).share_full fun _ => rfl) (V c) (V' c) ((pdats V adm 0 c).arrAt · cfg1.N)
      (fun w => by
        fin_cases w
        · exact ((pdats V adm 0 c).arrAt_in 0 rfl _).trans (hne c main_v42 (by decide)).symm
        · exact ((pdats V adm 0 c).arrAt_in 1 rfl _).trans (hne c main_v41 (by decide)).symm
        · exact (arr2 V c).trans (hout c).symm)
      (fun b hb => hne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | h
      · exact h
      · obtain ⟨w, s, rfl⟩ := h
        exact Nat.zero_le _
    iexact HO

end Cert.Proof.OfKernelIdeal

end
-- ==== Proof.KernelIdealLaunch.lean ====
/-
  The launch of the SparseCore call: what the call's threads are handed and bring back, one task's obligation from the task's
  proof, how the arrays are dealt among the 32 tasks and put together again, and the ghost state the program starts from.
-/
module

public import proofs.«01_k».proof.Proof.KernelIdealBody
public import proofs.«01_k».proof.Proof.Indices
public import proofs.«01_k».proof.Proof.KernelIdealRegion

@[expose] public section

noncomputable section

namespace Cert.Proof.OfKernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig (HIx 1) (Elt F) ℕ UU ℕ

abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

variable (m : (ℓ : Loc nD τ sig) → Buf (Elt F) ℓ) (ρ : Dev nD → PrngReg)

/-! ## What the call's threads are handed -/

/-- The flat table the call reads: the second argument in row-major order. -/
def tab (d : Dev nD) : S35392.Idx → Elt F .f32 :=
  shapeCast S35392 (m ((SparseCore.T d).loc main_arg1)) shapeCasts_S16x2212_S35392

/-- The indices the call reads. -/
def inds : S333824.Idx → Elt F .i32 := Indices.padded

omit [FloatOps F] in
theorem inds_lt (k : S333824.Idx) : (inds (F := F) k).toNat < 2212 := Indices.padded_lt k

/-- The number of the task that subcore `i` of core `c` runs. -/
def num (c : Fin 2) (i : Fin 16) : Fin 32 := ⟨i.val * 2 + c.val, by omega⟩

/-- Task `w` is handed a read share of the table, one of the indices, and its entries of the result -/
def goes (d : Dev nD) (w : Fin 32) : sProp 𝕄 :=
  iprop((tLoc d ↦{shareTok fullShare 32 w} tab m d) ∗ (iLoc d ↦{shareTok fullShare 32 w} inds)
    ∗ (oLoc d ↦[part w.val]{fullShare} m (oLoc d)))

/-- and brings them back with its entries of the result gathered. -/
def comes (d : Dev nD) (w : Fin 32) : sProp 𝕄 :=
  iprop((tLoc d ↦{shareTok fullShare 32 w} tab m d) ∗ (iLoc d ↦{shareTok fullShare 32 w} inds)
    ∗ ∃ f, ⌜∀ j ∈ part w.val, GatherAt (tab m d) inds j (f j)⌝ ∗ (oLoc d ↦[part w.val]{fullShare} f))

instance goes_storable (d : Dev nD) (w : Fin 32) : BI.Storable (upEmb : UEmb _ 𝕄) (goes m d w) := by
  unfold goes; infer_instance
instance comes_storable (d : Dev nD) (w : Fin 32) : BI.Storable (upEmb : UEmb _ 𝕄) (comes m d w) := by
  unfold comes; infer_instance

theorem nCore_zero : (K (F := F)).nCore 0 = 2 := rfl
theorem nSub_zero : (K (F := F)).nSub 0 = 16 := rfl

def P : (K (F := F)).Pay (nD := nD) (Val := Elt F) (Name := ℕ) (U := UU) where
  st := fun q d c => match q with
    | 0 => bigSep Finset.univ fun i : Fin 16 => goes m d (num (Fin.cast nCore_zero c) i)
  dn := fun q d c => match q with
    | 0 => bigSep Finset.univ fun i : Fin 16 => comes m d (num (Fin.cast nCore_zero c) i)
  go := fun q d c i => match q with | 0 => goes m d (num (Fin.cast nCore_zero c) (Fin.cast nSub_zero i))
  td := fun q d c i => match q with | 0 => comes m d (num (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun i : Fin 16 => goes m d (num (Fin.cast nCore_zero c) i)))
  dn q d c := match q with
    | 0 => (inferInstance : BI.Storable (upEmb : UEmb _ 𝕄) (bigSep Finset.univ fun i : Fin 16 => comes m d (num (Fin.cast nCore_zero c) i)))
  go q d c i := match q with
    | 0 => goes_storable m d (num (Fin.cast nCore_zero c) (Fin.cast nSub_zero i))
  td q d c i := match q with
    | 0 => comes_storable m d (num (Fin.cast nCore_zero c) (Fin.cast nSub_zero i))

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_kernel (coordsV c s) tV (Memref.isWhole_whole _) iV (Memref.isWhole_whole _)
          oV (Memref.isWhole_whole _) sT (Memref.isWhole_whole _) sI (Memref.isWhole_whole _) sG (Memref.isWhole_whole _)
          cc0_scoped0 cc0_scoped1 cc0_scoped2 cc0_scoped3 cc0_scoped4 cc0_scoped5 cc0_scoped6 cc0_scoped7 cc0_scoped8 cc0_scoped9
          cc0_scoped10 cc0_scoped11 cc0_scoped12 cc0_scoped13 cc0_scoped14 cc0_scoped15 cc0_scoped16 cc0_scoped17) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
theorem handed (A B C : sProp 𝕄) : iprop(A ∗ emp ∗ B ∗ C) ⊢ iprop(A ∗ B ∗ C) := by
  iintro ⟨Ha, -, Hb, Hc⟩
  isplitl [Ha]; · iexact Ha
  isplitl [Hb]; · iexact Hb
  iexact Hc

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have hb := tile_body d (coordsV ⟨_, hc.1⟩ ⟨_, hc.2⟩) facts (q := shareTok fullShare 32 (num (Fin.cast nCore_zero c) (Fin.cast nSub_zero i)))
    (q' := shareTok fullShare 32 (num (Fin.cast nCore_zero c) (Fin.cast nSub_zero i))) (Tb := tab m d) (I := inds) inds_lt (f₀ := m (oLoc d)) O W hO
  refine BI.Entails.trans (handed _ _ _) (hb.trans (wp_mono frame _ _ fun _ => obl_post))

theorem vecSplit : (K (F := F)).VecSplit' (P m) 0 := by
  intro d c
  show (bigSep Finset.univ fun i : Fin 16 => goes m d (num (Fin.cast nCore_zero c) i)) ⊢ |={Set.univ}=> iprop(
      (bigSep Finset.univ fun i : Fin 16 => goes m d (num (Fin.cast nCore_zero c) i))
      ∗ ((bigSep Finset.univ fun i : Fin 16 => comes m d (num (Fin.cast nCore_zero c) i))
          -∗ (bigSep Finset.univ fun i : Fin 16 => comes m d (num (Fin.cast nCore_zero c) i))))
  iintro H; imodintro
  isplitl [H]; · iexact H
  iintro H; iexact H

/-! ## Dealing the arrays and joining them -/

omit [FloatOps F] in
theorem parts_disjoint : ∀ i ∈ (Finset.univ : Finset (Fin 32)), ∀ j ∈ (Finset.univ : Finset (Fin 32)), i ≠ j →
    Disjoint (part i.val) (part j.val) := fun i _ j _ h =>
  Finset.disjoint_left.mpr fun _ h1 h2 => h (Fin.ext ((mem_part.mp h1).symm.trans (mem_part.mp h2)))

omit [FloatOps F] in
theorem parts_cover : (Finset.univ : Finset (Fin 32)).biUnion (fun w => part w.val) = Finset.univ :=
  Finset.eq_univ_iff_forall.mpr fun j => Finset.mem_biUnion.mpr
    ⟨⟨(j 0).val % 333824 / 10432, by omega⟩, Finset.mem_univ _, mem_part.mpr rfl⟩

/-- The tasks' numbers run through 0 to 31 as the core and the subcore run through theirs. -/
def numE : Fin 2 × Fin 16 ≃ Fin 32 where
  toFun p := num p.1 p.2
  invFun w := (⟨w.val % 2, by omega⟩, ⟨w.val / 2, by omega⟩)
  left_inv p := by
    obtain ⟨c, i⟩ := p
    exact Prod.ext (Fin.ext (show (i.val * 2 + c.val) % 2 = c.val by omega)) (Fin.ext (show (i.val * 2 + c.val) / 2 = i.val by omega))
  right_inv w := Fin.ext (show w.val / 2 * 2 + w.val % 2 = w.val by omega)

omit [FloatOps F] in
theorem bigSep_tasks (Φ : Fin 32 → sProp 𝕄) :
    (bigSep Finset.univ fun c : Fin 2 => bigSep Finset.univ fun i : Fin 16 => Φ (num c i)) = bigSep Finset.univ Φ := by
  rw [bigSep_univ_equiv numE Φ, bigSep_univ_prod]; rfl

theorem st_eq (d : Dev nD) :
    (bigSep Finset.univ fun c : Fin ((K (F := F)).nCore 0) => (P m).st 0 d c) = bigSep Finset.univ (goes m d) :=
  bigSep_tasks (goes m d)
theorem dn_eq (d : Dev nD) :
    (bigSep Finset.univ fun c : Fin ((K (F := F)).nCore 0) => (P m).dn 0 d c) = bigSep Finset.univ (comes m d) :=
  bigSep_tasks (comes m d)

/-- What the main thread keeps of the two arrays the tasks read. -/
def kept (d : Dev nD) : sProp 𝕄 :=
  iprop((tLoc d ↦{shareDrop fullShare 32} tab m d) ∗ (iLoc d ↦{shareDrop fullShare 32} inds))

theorem deal (d : Dev nD) :
    iprop((tLoc d ↦{fullShare} tab m d) ∗ (iLoc d ↦{fullShare} inds) ∗ (oLoc d ↦{fullShare} m (oLoc d)))
      ⊢ (iprop(kept m d ∗ bigSep Finset.univ (goes m d)) : sProp 𝕄) := by
  have hg : (bigSep Finset.univ (goes m d) : sProp 𝕄) = iprop((bigSep Finset.univ fun w : Fin 32 => tLoc d ↦{shareTok fullShare 32 w} tab m d)
      ∗ (bigSep Finset.univ fun w : Fin 32 => iLoc d ↦{shareTok fullShare 32 w} inds)
      ∗ (bigSep Finset.univ fun w : Fin 32 => oLoc d ↦[part w.val]{fullShare} m (oLoc d))) := by
    unfold goes; rw [bigSep_sep', bigSep_sep']
  have ho : (oLoc d ↦{fullShare} m (oLoc d) : sProp 𝕄)
      = bigSep Finset.univ fun w : Fin 32 => oLoc d ↦[part w.val]{fullShare} m (oLoc d) := by
    rw [← pointsTo_biUnion Finset.univ (ℓ := oLoc d) (fun w : Fin 32 => part w.val) parts_disjoint, parts_cover]; try rfl
  rw [hg, ho]; unfold kept
  iintro ⟨Ht, Hi, Ho⟩
  ihave Ht := (Transfers.pointsTo_toks_split fullShare 32) $$ Ht
  ihave Hi := (Transfers.pointsTo_toks_split fullShare 32) $$ Hi
  icases Ht with ⟨Ht, Hts⟩
  icases Hi with ⟨Hi, His⟩
  isplitl [Ht Hi]
  · isplitl [Ht]; · iexact Ht
    iexact Hi
  isplitl [Hts]; · iexact Hts
  isplitl [His]; · iexact His
  iexact Ho

theorem join (d : Dev nD) :
    iprop(kept m d ∗ bigSep Finset.univ (comes m d))
      ⊢ (iprop((tLoc d ↦{fullShare} tab m d) ∗ (iLoc d ↦{fullShare} inds)
          ∗ ∃ f : Buf (Elt F) (oLoc d), ⌜∀ j, GatherAt (tab m d) inds j (f j)⌝ ∗ (oLoc d ↦{fullShare} f)) : sProp 𝕄) := by
  have hg : (bigSep Finset.univ (comes m d) : sProp 𝕄) = iprop((bigSep Finset.univ fun w : Fin 32 => tLoc d ↦{shareTok fullShare 32 w} tab m d)
      ∗ (bigSep Finset.univ fun w : Fin 32 => iLoc d ↦{shareTok fullShare 32 w} inds)
      ∗ (bigSep Finset.univ fun w : Fin 32 => iprop(∃ f : Buf (Elt F) (oLoc d),
          ⌜∀ j ∈ part w.val, GatherAt (tab m d) inds j (f j)⌝ ∗ (oLoc d ↦[part w.val]{fullShare} f)))) := by
    unfold comes; rw [bigSep_sep', bigSep_sep']
  rw [hg]; unfold kept
  iintro ⟨⟨Ht, Hi⟩, Hts, His, Ho⟩
  ihave Ht := (Transfers.pointsTo_toks_join (S := Finset.univ) (ℓ := tLoc d) (f := tab m d) fullShare 32) $$ [Ht Hts]
  · isplitl [Ht] <;> iassumption
  ihave Hi := (Transfers.pointsTo_toks_join (S := Finset.univ) (ℓ := iLoc d) (f := inds) fullShare 32) $$ [Hi His]
  · isplitl [Hi] <;> iassumption
  isplitl [Ht]; · iexact Ht
  isplitl [Hi]; · iexact Hi
  ihave Ho := (bigSep_exists_pi Finset.univ (fun (w : Fin 32) (f : Buf (Elt F) (oLoc d)) =>
    (iprop(⌜∀ j ∈ part w.val, GatherAt (tab m d) inds j (f j)⌝ ∗ (oLoc d ↦[part w.val]{fullShare} f)) : sProp 𝕄))) $$ Ho
  icases Ho with ⟨%fs, Ho⟩
  ihave Ho := (bigSep_pure_sep Finset.univ (fun w : Fin 32 => ∀ j ∈ part w.val, GatherAt (tab m d) inds j (fs w j))
    (fun w : Fin 32 => (oLoc d ↦[part w.val]{fullShare} fs w : sProp 𝕄))) $$ Ho
  icases Ho with ⟨%hp, Ho⟩
  ihave Ho := (pointsTo_biUnion_join Finset.univ (fun w : Fin 32 => part w.val) fs (fs 0) parts_disjoint) $$ Ho
  icases Ho with ⟨%g, %hgs, Ho⟩
  rw [parts_cover]
  iexists g
  isplitr
  · ipureintro
    intro j
    have hj := Finset.mem_univ j
    rw [← parts_cover] at hj
    obtain ⟨w, hw, hj⟩ := Finset.mem_biUnion.mp hj
    rw [hgs w hw j hj]
    exact hp w hw j hj
  iexact Ho

/-! ## The ghost state the program starts from -/

abbrev adm : (p : Fin 1) → (pcfgs (F := F) p).Adm := fun p => (cfgs p).toPCfg_adm

/-- The pipelined region's cells and tokens, for the main thread of device `d`. -/
def G (d : Dev nD) : sProp 𝕄 :=
  iprop(Pipeline.cellsGhost (Pipeline.pin (pcfgs (F := F)) adm) ER 0 d ∗ Pipeline.toksInit (Pipeline.pin (pcfgs (F := F)) adm) ER 0 d)

def u₀ : UU := (initOf (K (F := F)).hsCells (K (F := F)).hsToks,
  (initOf (Pipeline.cells (nD := nD) (τ := τ) (Pipeline.pin (pcfgs (F := F)) adm) cellOf_inj)
    (Pipeline.launchToks (nD := nD) (τ := τ) (Pipeline.pin (pcfgs (F := F)) adm) cellOf_inj), 1))

omit [FloatOps F] in
theorem ownU_split (a : UH) (b : UR) : (ownU ((a, (b, 1)) : UU) : sProp 𝕄) ⊢ iprop(BI.own (EH a) ∗ BI.own (ER b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, 1))))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  have hx : (bigSep Finset.univ fun thr : Thread nD τ => bigSep Finset.univ fun q : Fin 1 => (P (F := F) m).x q thr) = iprop(emp) :=
    (bigSep_congr fun thr _ => bigSep_emp_const (M := 𝕄) (Finset.univ : Finset (Fin 1))).trans (bigSep_emp_const _)
  have hG : (bigSep Finset.univ fun d : Dev nD => G (F := F) d) = iprop(
      (bigSep Finset.univ fun d : Dev nD => bigSep Finset.univ fun p : Fin 1 => Pipeline.cellsGhost (Pipeline.pin (pcfgs (F := F)) adm) ER p d)
      ∗ (bigSep Finset.univ fun d : Dev nD => bigSep Finset.univ fun p : Fin 1 => Pipeline.toksInit (Pipeline.pin (pcfgs (F := F)) adm) ER p d)) := by
    unfold G; rw [bigSep_sep']
    congr 1
    · exact bigSep_congr fun d _ => (bigSep_univ_of_subsingleton
        (Φ := fun p : Fin 1 => Pipeline.cellsGhost (Pipeline.pin (pcfgs (F := F)) adm) ER p d) (0 : Fin 1)).symm
    · exact bigSep_congr fun d _ => (bigSep_univ_of_subsingleton
        (Φ := fun p : Fin 1 => Pipeline.toksInit (Pipeline.pin (pcfgs (F := F)) adm) ER p d) (0 : Fin 1)).symm
  rw [hx, hG]; unfold u₀
  iintro Hu
  ihave H := (ownU_split _ _) $$ Hu
  icases H with ⟨HH, HR⟩
  imod (Pipeline.fund_ghost (Pipeline.pin (pcfgs (F := F)) adm) ER cellOf_inj) $$ HR with ⟨Hc, Ht⟩
  imodintro
  isplitl [HH]; · iexact HH
  isplitl [Hc Ht]
  · isplitl [Hc] <;> iassumption
  iempintro

end Cert.Proof.OfKernelIdeal

end
-- ==== Proof.KernelIdealIndices.lean ====
/-
  The operations before the SparseCore call that build the table of indices, and what they leave: the table in row-major order with
  zeros after it, and every array they do not write as it was.
-/
module

public import proofs.«01_k».proof.Proof.KernelIdealLaunch
public import Idealize.ShloMosaic.Lib.StableHlo.Run

@[expose] public section

noncomputable section

namespace Cert.Proof.OfKernelIdeal

open Cert.KernelIdeal Cert.KernelIdeal.Gen

open Idealize.ShloMosaic Idealize.ShloMosaic.StableHlo
open Idealize.ShloMosaic.TcCoe
open Indices (beside)

variable {F : FTy → Type} [FloatOps F]

/-- The arrays of the main thread. -/
def arrays : Finset (DevRef τ sig) := (tcRefs τ sig).filter fun b => ¬ b.isScoped

/-- The operations that build the indices, in order. -/
def building : List (HloOp τ sig (Elt F)) :=
  [ nullary main_v0 (iotaInDim S24 32 0),
    nullary main_v1 (iotaInDim S24 32 0),
    unary main_v1 main_v2 (broadcastInDim S24x24 ![0] bcast_S24_S24x24_0),
    unary main_v0 main_v3 (broadcastInDim S24x24 ![1] bcast_S24_S24x24_1),
    unary main_v3 main_v4 (broadcastInDim S24x24x1 ![0, 1] bcast_S24x24_S24x24x1_0_1),
    unary main_v2 main_v5 (broadcastInDim S24x24x1 ![0, 1] bcast_S24x24_S24x24x1_0_1),
    binary main_v4 main_v5 main_v6 (beside S24x24x2 2 S24x24x1 S24x24x1 concatenates_S24x24x1_S24x24x1_S24x24x2_d2),
    reshape main_v6 main_v7 (rfl : (.i32 : EltTy) = .i32) shapeCasts_S24x24x2_S576x2,
    unary main_v7 main_v8 (broadcastInDim S576x1x2 ![0, 2] bcast_S576x2_S576x1x2_0_2),
    unary main_v7 main_v9 (broadcastInDim S1x576x2 ![1, 2] bcast_S576x2_S1x576x2_1_2),
    unary main_v8 main_v10 (broadcastInDim S576x576x2 ![0, 1, 2] bcast_S576x1x2_S576x576x2_0_1_2),
    unary main_v9 main_v11 (broadcastInDim S576x576x2 ![0, 1, 2] bcast_S1x576x2_S576x576x2_0_1_2),
    binary main_v10 main_v11 main_v12 subi,
    unary main_v12 main_v13 (extractStridedSlice S576x576x1 ![0, 0, 0] · slices_S576x576x2_S576x576x1_0_0_0),
    reshape main_v13 main_v14 (rfl : (.i32 : EltTy) = .i32) shapeCasts_S576x576x1_S576x576,
    nullary main_c (constantI S_ 32 24#32),
    unary main_c main_v15 (broadcastInDim S576x576 ![] bcast_S_S576x576),
    binary main_v14 main_v15 main_v16 addi,
    nullary main_c_0 (constantI S_ 32 1#32),
    unary main_c_0 main_v17 (broadcastInDim S576x576 ![] bcast_S_S576x576),
    binary main_v16 main_v17 main_v18 subi,
    unary main_v12 main_v19 (extractStridedSlice S576x576x1 ![0, 0, 1] · slices_S576x576x2_S576x576x1_0_0_1),
    reshape main_v19 main_v20 (rfl : (.i32 : EltTy) = .i32) shapeCasts_S576x576x1_S576x576,
    nullary main_c_1 (constantI S_ 32 24#32),
    unary main_c_1 main_v21 (broadcastInDim S576x576 ![] bcast_S_S576x576),
    binary main_v20 main_v21 main_v22 addi,
    nullary main_c_2 (constantI S_ 32 1#32),
    unary main_c_2 main_v23 (broadcastInDim S576x576 ![] bcast_S_S576x576),
    binary main_v22 main_v23 main_v24 subi,
    nullary main_c_3 (constantI S_ 32 47#32),
    unary main_c_3 main_v25 (broadcastInDim S576x576 ![] bcast_S_S576x576),
    binary main_v24 main_v25 main_v26 muli,
    unary main_v18 main_v27 (broadcastInDim S576x576x1 ![0, 1] bcast_S576x576_S576x576x1_0_1),
    unary main_v26 main_v28 (broadcastInDim S576x576x1 ![0, 1] bcast_S576x576_S576x576x1_0_1),
    binary main_v27 main_v28 main_v29 (beside S576x576x2 2 S576x576x1 S576x576x1 concatenates_S576x576x1_S576x576x1_S576x576x2_d2),
    nullary main_c_4 (constantI S_ 32 0#32),
    binary main_v29 main_c_4 main_v30 (fun x v => Host.reduce IntOp.addi x v reducesTo_S576x576x2_S576x576_d2 h_S_),
    nullary main_c_5 (constantI S_ 32 2209#32),
    unary main_c_5 main_v31 (broadcastInDim S1x576 ![] bcast_S_S1x576),
    nullary main_c_6 (constantI S_ 32 2210#32),
    unary main_c_6 main_v32 (broadcastInDim S576x1 ![] bcast_S_S576x1),
    nullary main_c_7 (constantI S_ 32 2211#32),
    unary main_c_7 main_v33 (broadcastInDim S1x1 ![] bcast_S_S1x1),
    binary main_v33 main_v32 main_v34 (beside S577x1 0 S1x1 S576x1 concatenates_S1x1_S576x1_S577x1_d0),
    binary main_v31 main_v30 main_v35 (beside S577x576 0 S1x576 S576x576 concatenates_S1x576_S576x576_S577x576_d0),
    binary main_v34 main_v35 main_v36 (beside S577x577 1 S577x1 S577x576 concatenates_S577x1_S577x576_S577x577_d1),
    reshape main_v36 main_v37 (rfl : (.i32 : EltTy) = .i32) shapeCasts_S577x577_S332929,
    nullary main_c_8 (constantI S_ 32 0#32),
    TRef.unary (TRef.of (T := ⟨S_, .i32⟩) main_c_8) (TRef.of (T := ⟨S_, .i32⟩) main_call0_v0) id,
    TRef.binary (TRef.of (T := ⟨S332929, .i32⟩) main_v37) (TRef.of (T := ⟨S_, .i32⟩) main_call0_v0) (TRef.of (T := ⟨S333824, .i32⟩) main_v38)
      (fun x v => pad S333824 ![0] ![895] ![0] x v pads_S332929_S333824_08950 h_S_) ]

/-- The arrays they write, in order. -/
def built : List (Ref sig .tc) :=
  [ main_v0, main_v1, main_v2, main_v3, main_v4, main_v5, main_v6, main_v7, main_v8, main_v9, main_v10, main_v11,
    main_v12, main_v13, main_v14, main_c, main_v15, main_v16, main_c_0, main_v17, main_v18, main_v19, main_v20,
    main_c_1, main_v21, main_v22, main_c_2, main_v23, main_v24, main_c_3, main_v25, main_v26, main_v27, main_v28,
    main_v29, main_c_4, main_v30, main_c_5, main_v31, main_c_6, main_v32, main_c_7, main_v33, main_v34, main_v35,
    main_v36, main_v37, main_c_8, main_call0_v0, main_v38 ]

theorem building_writes : (building (F := F)).Forall fun op => op.writes ⊆ (built.map (Proc.devRef (τ := τ) .tc)).toFinset :=
  forall_writes_sub_of_map (by unfold building built; rfl)

omit [FloatOps F] in
theorem built_sub : (built.map (Proc.devRef (τ := τ) .tc)).toFinset ⊆ arrays := by unfold built arrays; decide

omit [FloatOps F] in
theorem mem_arrays {r : Ref sig .tc} (h : r ∈ built) : (r : DevRef τ sig) ∈ arrays :=
  built_sub (List.mem_toFinset.2 (List.mem_map_of_mem h))

omit [FloatOps F] in
theorem one_sub {y : Ref sig .tc} (hy : y ∈ built) : ({(y : DevRef τ sig)} : Finset (DevRef τ sig)) ⊆ arrays :=
  Finset.singleton_subset_iff.2 (mem_arrays hy)
omit [FloatOps F] in
theorem two_sub {x y : Ref sig .tc} (hx : x ∈ built) (hy : y ∈ built) :
    ({(x : DevRef τ sig), (y : DevRef τ sig)} : Finset (DevRef τ sig)) ⊆ arrays :=
  Finset.insert_subset (mem_arrays hx) (one_sub hy)
omit [FloatOps F] in
theorem triple_sub {a b y : Ref sig .tc} (ha : a ∈ built) (hb : b ∈ built) (hy : y ∈ built) :
    ({(a : DevRef τ sig), (b : DevRef τ sig), (y : DevRef τ sig)} : Finset (DevRef τ sig)) ⊆ arrays :=
  Finset.insert_subset (mem_arrays ha) (two_sub hb hy)

theorem building_sub : (building (F := F)).Forall fun op => op.bufs ⊆ arrays := by
  unfold building
  simp only [List.Forall]
  exact ⟨one_sub (by decide), one_sub (by decide), two_sub (by decide) (by decide), two_sub (by decide) (by decide),
    two_sub (by decide) (by decide), two_sub (by decide) (by decide), triple_sub (by decide) (by decide) (by decide),
    two_sub (by decide) (by decide), two_sub (by decide) (by decide), two_sub (by decide) (by decide),
    two_sub (by decide) (by decide), two_sub (by decide) (by decide), triple_sub (by decide) (by decide) (by decide),
    two_sub (by decide) (by decide), two_sub (by decide) (by decide), one_sub (by decide), two_sub (by decide) (by decide),
    triple_sub (by decide) (by decide) (by decide), one_sub (by decide), two_sub (by decide) (by decide),
    triple_sub (by decide) (by decide) (by decide), two_sub (by decide) (by decide), two_sub (by decide) (by decide),
    one_sub (by decide), two_sub (by decide) (by decide), triple_sub (by decide) (by decide) (by decide),
    one_sub (by decide), two_sub (by decide) (by decide), triple_sub (by decide) (by decide) (by decide),
    one_sub (by decide), two_sub (by decide) (by decide), triple_sub (by decide) (by decide) (by decide),
    two_sub (by decide) (by decide), two_sub (by decide) (by decide), triple_sub (by decide) (by decide) (by decide),
    one_sub (by decide), triple_sub (by decide) (by decide) (by decide), one_sub (by decide),
    two_sub (by decide) (by decide), one_sub (by decide), two_sub (by decide) (by decide), one_sub (by decide),
    two_sub (by decide) (by decide), triple_sub (by decide) (by decide) (by decide),
    triple_sub (by decide) (by decide) (by decide), triple_sub (by decide) (by decide) (by decide),
    two_sub (by decide) (by decide), one_sub (by decide), two_sub (by decide) (by decide),
    triple_sub (by decide) (by decide) (by decide)⟩

theorem building_fresh : ∀ op ∈ building (F := F), op.fresh = ∅ := by
  refine List.forall_iff_forall_mem.1 ?_
  unfold building
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> rfl

/-- An array they do not write is as it was, -/
theorem after_building_ne (V : Valuation τ sig (Elt F)) {b : Ref sig .tc} (h : b ∉ built) :
    after building V (b : DevRef τ sig) = V (b : DevRef τ sig) := after_of_writes_sub _ V building_writes h

set_option maxRecDepth 8192 in
set_option maxHeartbeats 4000000 in
/-- and the last holds the indices. -/
theorem after_building (V : Valuation τ sig (Elt F)) : after building V (main_v38 : DevRef τ sig) = inds := by
  simp only [building, TRef.binary, TRef.unary, TRef.toBuf, TRef.ofBuf, cast_eq]
  after_results_simp <;> rfl

end Cert.Proof.OfKernelIdeal

end
-- ==== Proof.KernelIdealMain.lean ====
/-
  The program's main thread: the arrays' contents step by step, the run of the thread, and the run of the whole program with
  what its result holds at every entry.
-/
module

public import proofs.«01_k».proof.Proof.KernelIdealIndices

@[expose] public section

noncomputable section

namespace Cert.Proof.OfKernelIdeal

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 1) (Elt F) ℕ UU ℕ

/-! ## The arrays' contents, step by step -/

section Steps

variable (m : (ℓ : Loc nD τ sig) → Buf (Elt F) ℓ) (f : S5341184.Idx → Elt F .f32) (c : Dev nD)

abbrev op0 : HloOp τ sig (Elt F) := StableHlo.reshape main_arg1 main_v39 (rfl : (.f32 : EltTy) = .f32) shapeCasts_S16x2212_S35392
abbrev op2 : HloOp τ sig (Elt F) := StableHlo.reshape main_v40 main_v41 (rfl : (.f32 : EltTy) = .f32) shapeCasts_S5341184_S16x333824
abbrev op3 : HloOp τ sig (Elt F) :=
  StableHlo.reshape main_arg0 main_v42 (rfl : (.f32 : EltTy) = .f32) shapeCasts_S4x16x577x577_S4x16x332929
abbrev op5 : HloOp τ sig (Elt F) :=
  StableHlo.reshape main_v43 main_v44 (rfl : (.f32 : EltTy) = .f32) shapeCasts_S4x16x332929_S4x16x577x577

/-- Before the SparseCore call, the indices built, -/
def W2 : Valuation τ sig (Elt F) := op0.result (StableHlo.after building fun b => m (c, b))
/-- after it, its result at `f`, -/
def W3 : Valuation τ sig (Elt F) := Function.update (W2 m c) (main_v40 : DevRef τ sig) f
/-- before the dense half, -/
def W5 : Valuation τ sig (Elt F) := op3.result (op2.result (W3 m f c))
/-- those contents as the region takes them, -/
def V5 (b : Ref sig .tc) : Buf (Elt F) ((c : Thread nD τ).loc b) := W5 m f c (b : DevRef τ sig)
/-- after it, -/
def W6 : Valuation τ sig (Elt F) := Function.update (W5 m f c) (main_v43 : DevRef τ sig) (sums (V5 m f) c)
def V6 (b : Ref sig .tc) : Buf (Elt F) ((c : Thread nD τ).loc b) := W6 m f c (b : DevRef τ sig)
/-- and at the end. -/
def W7 : Valuation τ sig (Elt F) := op5.result (W6 m f c)

theorem W2_c : W2 m c (main_v38 : DevRef τ sig) = inds := by
  unfold W2
  rw [StableHlo.reshape_result_ne _ _ _ _ _ _ _ (by decide), after_building]
theorem W2_v0 : W2 m c (main_v39 : DevRef τ sig) = tab m c := by
  unfold W2
  rw [StableHlo.reshape_result, after_building_ne _ (by decide)]; rfl
theorem W2_ne {b : Ref sig .tc} (h : b ≠ main_v39) (h' : b ∉ built) : W2 m c (b : DevRef τ sig) = m ((c : Thread nD τ).loc b) := by
  unfold W2
  rw [StableHlo.reshape_result_ne _ _ _ _ _ _ _ h, after_building_ne _ h']
theorem W3_v1 : W3 m f c (main_v40 : DevRef τ sig) = f := Function.update_self _ _ _
theorem W3_ne {b : Ref sig .tc} (h : b ≠ main_v40) : W3 m f c (b : DevRef τ sig) = W2 m c (b : DevRef τ sig) :=
  Function.update_of_ne (StableHlo.devRef_ne_of_ne h) _ _
theorem W5_v2 : W5 m f c (main_v41 : DevRef τ sig) = shapeCast S16x333824 f shapeCasts_S5341184_S16x333824 := by
  unfold W5
  rw [StableHlo.reshape_result_ne _ _ _ _ _ _ _ (by decide), StableHlo.reshape_result, W3_v1]; rfl
theorem W5_v3 : W5 m f c (main_v42 : DevRef τ sig)
    = shapeCast S4x16x332929 (m ((c : Thread nD τ).loc main_arg0)) shapeCasts_S4x16x577x577_S4x16x332929 := by
  unfold W5
  rw [StableHlo.reshape_result, StableHlo.reshape_result_ne _ _ _ _ _ _ _ (by decide), W3_ne m f c (by decide),
    W2_ne m c (by decide) (by decide)]; rfl
theorem W5_ne {b : Ref sig .tc} (h : b ≠ main_v41) (h' : b ≠ main_v42) : W5 m f c (b : DevRef τ sig) = W3 m f c (b : DevRef τ sig) := by
  unfold W5
  rw [StableHlo.reshape_result_ne _ _ _ _ _ _ _ h', StableHlo.reshape_result_ne _ _ _ _ _ _ _ h]
theorem V6_v4 : V6 m f c main_v43 = sums (V5 m f) c := by
  unfold V6 W6; exact Function.update_self _ _ _
theorem V6_ne (b : Ref sig .tc) (h : b ≠ main_v43) : V6 m f c b = V5 m f c b :=
  Function.update_of_ne (StableHlo.devRef_ne_of_ne h) _ _
theorem W7_v5 : W7 m f c (main_v44 : DevRef τ sig)
    = shapeCast S4x16x577x577 (sums (V5 m f) c) shapeCasts_S4x16x332929_S4x16x577x577 := by
  unfold W7
  rw [StableHlo.reshape_result]
  exact congrArg (fun x : S4x16x332929.Idx → Elt F .f32 => shapeCast S4x16x577x577 x shapeCasts_S4x16x332929_S4x16x577x577) (V6_v4 m f c)
theorem W7_ne {b : Ref sig .tc} (h : b ≠ main_v44) (h' : b ≠ main_v43) : W7 m f c (b : DevRef τ sig) = W5 m f c (b : DevRef τ sig) := by
  unfold W7
  rw [StableHlo.reshape_result_ne _ _ _ _ _ _ _ h]
  exact V6_ne m f c b h'
theorem W7_arg0 : W7 m f c (main_arg0 : DevRef τ sig) = m ((c : Thread nD τ).loc main_arg0) := by
  rw [W7_ne m f c (by decide) (by decide), W5_ne m f c (by decide) (by decide), W3_ne m f c (by decide), W2_ne m c (by decide) (by decide)]
theorem W7_arg1 : W7 m f c (main_arg1 : DevRef τ sig) = m ((c : Thread nD τ).loc main_arg1) := by
  rw [W7_ne m f c (by decide) (by decide), W5_ne m f c (by decide) (by decide), W3_ne m f c (by decide), W2_ne m c (by decide) (by decide)]

end Steps

/-! ## The arrays as one set -/

variable (m : (ℓ : Loc nD τ sig) → Buf (Elt F) ℓ) (ρ : Dev nD → PrngReg)

omit [FloatOps F] in
theorem unscoped_held (c : Dev nD) (W : Valuation τ sig (Elt F)) :
    (unscopedBufs c (fun b => W (b : DevRef τ sig)) : sProp 𝕄) = held (c : Thread nD τ) arrays W := by
  unfold unscopedBufs held arrays StableHlo.tcRefs
  rw [Finset.filter_map, bigSep_map]; rfl

/-- The three arrays of the SparseCore call. -/
def three : Finset (DevRef τ sig) := {(main_v39 : DevRef τ sig), (main_v38 : DevRef τ sig), (main_v40 : DevRef τ sig)}
/-- The arguments and the result. -/
def ends : Finset (DevRef τ sig) := {(main_arg0 : DevRef τ sig), (main_arg1 : DevRef τ sig), (main_v44 : DevRef τ sig)}

omit [FloatOps F] in
theorem three_sub : three ⊆ arrays := by unfold three arrays; decide
omit [FloatOps F] in
theorem ends_sub : ends ⊆ arrays := by unfold ends arrays; decide

omit [FloatOps F] in
theorem op0_sub : (op0 (F := F)).bufs ⊆ arrays :=
  show ({(main_arg1 : DevRef τ sig), (main_v39 : DevRef τ sig)} : Finset (DevRef τ sig)) ⊆ arrays by unfold arrays; decide
omit [FloatOps F] in
theorem op2_sub : (op2 (F := F)).bufs ⊆ arrays :=
  show ({(main_v40 : DevRef τ sig), (main_v41 : DevRef τ sig)} : Finset (DevRef τ sig)) ⊆ arrays by unfold arrays; decide
omit [FloatOps F] in
theorem op3_sub : (op3 (F := F)).bufs ⊆ arrays :=
  show ({(main_arg0 : DevRef τ sig), (main_v42 : DevRef τ sig)} : Finset (DevRef τ sig)) ⊆ arrays by unfold arrays; decide
omit [FloatOps F] in
theorem op5_sub : (op5 (F := F)).bufs ⊆ arrays :=
  show ({(main_v43 : DevRef τ sig), (main_v44 : DevRef τ sig)} : Finset (DevRef τ sig)) ⊆ arrays by unfold arrays; decide

omit [FloatOps F] in
theorem held_three (c : Dev nD) (W : Valuation τ sig (Elt F)) :
    (held (c : Thread nD τ) three W : sProp 𝕄) = iprop((tLoc c ↦{fullShare} W (main_v39 : DevRef τ sig))
      ∗ (iLoc c ↦{fullShare} W (main_v38 : DevRef τ sig)) ∗ (oLoc c ↦{fullShare} W (main_v40 : DevRef τ sig))) := by
  unfold held three
  rw [SparseCore.bigSep_insert' (by decide), SparseCore.bigSep_insert' (by decide), bigSep_singleton]

omit [FloatOps F] in
theorem held_ends (c : Dev nD) (W : Valuation τ sig (Elt F)) :
    (held (c : Thread nD τ) ends W : sProp 𝕄) = iprop(((c : Thread nD τ).loc main_arg0 ↦{fullShare} W (main_arg0 : DevRef τ sig))
      ∗ ((c : Thread nD τ).loc main_arg1 ↦{fullShare} W (main_arg1 : DevRef τ sig))
      ∗ ((c : Thread nD τ).loc main_v44 ↦{fullShare} W (main_v44 : DevRef τ sig))) := by
  unfold held ends
  rw [SparseCore.bigSep_insert' (by decide), SparseCore.bigSep_insert' (by decide), bigSep_singleton]

/-- Off the call's three arrays nothing changes when the call's result is written. -/
theorem held_rest (f : S5341184.Idx → Elt F .f32) (c : Dev nD) :
    (held (c : Thread nD τ) (arrays \ three) (W2 m c) : sProp 𝕄) = held (c : Thread nD τ) (arrays \ three) (W3 m f c) :=
  StableHlo.held_congr (c : Thread nD τ) fun b hb => (Function.update_of_ne (fun e => (Finset.mem_sdiff.mp hb).2
    (by rw [e]; unfold three; decide)) _ _).symm

/-- The call's operands out of the arrays, -/
theorem call_in (d : Dev nD) : (held (d : Thread nD τ) arrays (op0.result (StableHlo.after building fun b => m (d, b))) : sProp 𝕄)
    ⊢ iprop(((tLoc d ↦{fullShare} tab m d) ∗ (iLoc d ↦{fullShare} inds) ∗ (oLoc d ↦{fullShare} m (oLoc d)))
      ∗ held (d : Thread nD τ) (arrays \ three) (W2 m d)) := by
  rw [show op0.result (StableHlo.after building fun b => m (d, b)) = W2 m d from rfl, StableHlo.held_sub_split (d : Thread nD τ) three_sub (W2 m d),
    held_three, W2_v0, W2_c, W2_ne m d (b := main_v40) (by decide) (by decide)]

/-- and back among them. -/
theorem call_out (f : S5341184.Idx → Elt F .f32) (d : Dev nD) :
    iprop(((tLoc d ↦{fullShare} tab m d) ∗ (iLoc d ↦{fullShare} inds) ∗ (oLoc d ↦{fullShare} f))
      ∗ held (d : Thread nD τ) (arrays \ three) (W2 m d)) ⊢ (held (d : Thread nD τ) arrays (W3 m f d) : sProp 𝕄) := by
  rw [StableHlo.held_sub_split (d : Thread nD τ) three_sub (W3 m f d), held_three, W3_v1, W3_ne m f d (by decide),
    W3_ne m f d (by decide), W2_v0, W2_c, held_rest m f d]

/-! ## The dense half, called from the main thread -/

variable [∀ e, Nonempty (Elt F e)]

/-- The call, in the pipelined region's own program. -/
def denseCall : Prog (TpuEff nD τ sig (Elt F) (ΛP (F := F)) .tc) PUnit := .op (.customCall (Pipeline.entry 0) ()) .ret

theorem wp_dense_lift (d : Dev nD) (Φ : PUnit → sProp 𝕄) :
    wp frame (wpE (D (F := F)) 𝒱 (SparseCore.T d) none) Set.univ (denseCall (F := F)) Φ
      ⊢ wp frame (wpE ((K (F := F)).defs (D (F := F))) 𝒱 (SparseCore.T d) none) Set.univ
          (Prog.lift (.customCall (SparseCore.inner (Pipeline.entry 0)) ())) Φ := by
  have h := (K (F := F)).wp_liftProg (D (F := F)) 𝒱 (SparseCore.T d) Set.univ none (denseCall (F := F)) Φ
  exact h

set_option backward.isDefEq.respectTransparency.types false in
theorem wp_dense_region (f : S5341184.Idx → Elt F .f32) (d : Dev nD) (Φ : PUnit → sProp 𝕄) :
    iprop((iprop(boundary (d : Thread nD τ) ∗ unscopedBufs d (V6 m f d) ∗ settled (F := F) d)
          -∗ wp frame (wpE (D (F := F)) 𝒱 (d : Thread nD τ) none) Set.univ (.ret ⟨⟩) Φ)
        ∗ boundary (d : Thread nD τ) ∗ (unscopedBufs d (V5 m f d) ∗ settled (F := F) d) ∗ levAts (K (F := F)).L (K (F := F)).lev
        ∗ Pipeline.cellsGhost (Pipeline.pin (pcfgs (F := F)) adm) ER 0 d ∗ Pipeline.toksInit (Pipeline.pin (pcfgs (F := F)) adm) ER 0 d)
      ⊢ wp frame (wpE (D (F := F)) 𝒱 (d : Thread nD τ) none) Set.univ (denseCall (F := F)) Φ := by
  have h := Pipeline.RegionSeg.wp (pcfgs (F := F)) adm (pdats (V5 m f) adm) none cellOf_inj ER defs₀ 𝒱₀ (K (F := F)).L (K (F := F)).lev
    (addSeg (V5 m f) adm (V6 m f) (V6_v4 m f) (V6_ne m f)) d none (fun _ h => nomatch h) .ret Φ
  exact h

omit [∀ e, Nonempty (Elt F e)] in
theorem ret_intro (d : Dev nD) (Φ : PUnit → sProp 𝕄) :
    Φ ⟨⟩ ⊢ wp frame (wpE (D (F := F)) 𝒱 (d : Thread nD τ) none) Set.univ (.ret ⟨⟩) Φ := by
  rw [wp_ret]; iintro H; imodintro; iexact H

omit [FloatOps F] [∀ e, Nonempty (Elt F e)] in
theorem regroup {A B C R E X P Q W : sProp 𝕄} (h : P ⊢ Q) :
    iprop(A ∗ B ∗ C ∗ R ∗ (E ∗ X) ∗ ((B ∗ W ∗ R) -∗ P)) ⊢ iprop(((B ∗ W ∗ R) -∗ Q) ∗ B ∗ (C ∗ R) ∗ A ∗ E ∗ X) := by
  iintro ⟨HA, HB, HC, HR, ⟨HE, HX⟩, Hk⟩
  isplitl [Hk]
  · iintro H
    iapply h; iapply Hk; iexact H
  isplitl [HB]; · iexact HB
  isplitl [HC HR]
  · isplitl [HC] <;> iassumption
  isplitl [HA]; · iexact HA
  isplitl [HE] <;> iassumption

theorem wp_dense (f : S5341184.Idx → Elt F .f32) (d : Dev nD) (Φ : PUnit → sProp 𝕄) :
    iprop(levAts (K (F := F)).L (K (F := F)).lev ∗ boundary (d : Thread nD τ) ∗ held (d : Thread nD τ) arrays (W5 m f d) ∗ settled (F := F) d ∗ G d
        ∗ ((boundary (d : Thread nD τ) ∗ held (d : Thread nD τ) arrays (W6 m f d) ∗ settled (F := F) d) -∗ Φ ⟨⟩))
      ⊢ wp frame (wpE ((K (F := F)).defs (D (F := F))) 𝒱 (SparseCore.T d) none) Set.univ
          (Prog.lift (.customCall (SparseCore.inner (Pipeline.entry 0)) ())) Φ := by
  refine BI.Entails.trans ?_ (wp_dense_lift d Φ)
  refine BI.Entails.trans ?_ (wp_dense_region m f d Φ)
  rw [← unscoped_held d (W5 m f d), ← unscoped_held d (W6 m f d)]
  unfold G
  exact regroup (ret_intro d Φ)

/-! ## The main thread -/

/-- What the main thread leaves for the end: the arguments and the result, at the last step's contents. -/
def FIN (d : Dev nD) : sProp 𝕄 :=
  iprop(∃ f : S5341184.Idx → Elt F .f32, ⌜∀ j, GatherAt (tab m d) inds j (f j)⌝ ∗ held (d : Thread nD τ) ends (W7 m f d))

/-- The main thread's handshake state past the one call, with its account of its debts apart. -/
theorem tcSt_one (d : Dev nD) : ∃ R : sProp 𝕄, (K (F := F)).tcSt EH d 1 = iprop(settled (F := F) d ∗ R) := by
  unfold SparseCore.Cfg.tcSt
  rw [(K (F := F)).Otc_end d (le_refl 1)]
  exact ⟨_, rfl⟩

/-- The main thread past the indices. -/
def rest (d : Dev nD) : Prog (TpuEff nD τ sig (Elt F) (SparseCore.Sig (Pipeline.Sig Λ₀ (Fin 1) fun p => (pcfgs (F := F) p).Adm) 1) .tc) PUnit := do
  hlo rfl op0 (fun _ => .ret ⟨⟩)
  sc.run d 0
  hlo rfl op2 (fun _ => .ret ⟨⟩)
  hlo rfl op3 (fun _ => .ret ⟨⟩)
  Prog.lift (.customCall (SparseCore.inner (Pipeline.entry 0)) ())
  hlo rfl op5 (fun _ => .ret ⟨⟩)
  pure ⟨⟩

omit [∀ e, Nonempty (Elt F e)] in
set_option maxRecDepth 8192 in
set_option maxHeartbeats 4000000 in
theorem main_eq (d : Dev nD) : main (F := F) d = StableHlo.seq building >>= fun _ => rest d := rfl

theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (d : Thread nD τ) arrays (fun b => m (d, b))
    from unscoped_held d fun b => m (d, b)]
  rw [main_eq]
  iintro ⟨#Hctx, Hst, ⟨Hb, Hw, Hts, -⟩, HG⟩
  -- the indices and the flat table
  iapply (StableHlo.wp_seq 𝒱 none Set.univ d arrays (fun _ => rest d) building (List.forall_iff_forall_mem.1 building_sub) building_fresh
    (fun b => m (d, b))) $$ [Hb Hw]
  · isplitl [Hb]; · iexact Hb
    iexact Hw
  iintro ⟨Hb, Hw⟩
  simp only [rest, wp_bind, wp_pure]
  iapply (StableHlo.wp_hlo_within 𝒱 (d : Thread nD τ) none Set.univ (op := op0) (S := arrays) op0_sub (V := StableHlo.after building fun b => m (d, b))) $$ [Hb Hw]
  · isplitl [Hb]; · iexact Hb
    iexact Hw
  iintro ⟨Hb, Hw⟩
  rw [wp_ret]; imodintro
  -- the call
  ihave Hw := (call_in m d) $$ Hw
  icases Hw with ⟨H3, Hrest⟩
  ihave H3 := (deal m d) $$ H3
  icases H3 with ⟨Hkept, H3⟩
  iapply ((K (F := F)).wp_run (D (F := F)) 𝒱 (EH := EH) (P := P m) κ d 0) $$ [Hst H3 Hkept Hrest Hb Hts HG]
  isplitr; · iexact Hctx
  isplitl [Hst]; · iexact Hst
  isplitl [H3]
  · rw [st_eq]; iexact H3
  iintro ⟨Hst, H3⟩
  ihave H3 := (Entails.of_eq (dn_eq m d)) $$ H3
  ihave H3 := (join m d) $$ [Hkept H3]
  · isplitl [Hkept] <;> iassumption
  icases H3 with ⟨Ht, Hi, %f, %hf, Ho⟩
  ihave Hw := (call_out m f d) $$ [Ht Hi Ho Hrest]
  · isplitl [Ht Hi Ho]
    · isplitl [Ht]; · iexact Ht
      isplitl [Hi] <;> iassumption
    iexact Hrest
  -- the two operands of the dense half
  iapply (StableHlo.wp_hlo_within 𝒱 (d : Thread nD τ) none Set.univ (op := op2) (S := arrays) op2_sub (V := W3 m f d)) $$ [Hb Hw]
  · isplitl [Hb]; · iexact Hb
    iexact Hw
  iintro ⟨Hb, Hw⟩
  rw [wp_ret]; imodintro
  iapply (StableHlo.wp_hlo_within 𝒱 (d : Thread nD τ) none Set.univ (op := op3) (S := arrays) op3_sub (V := op2.result (W3 m f d))) $$ [Hb Hw]
  · isplitl [Hb]; · iexact Hb
    iexact Hw
  iintro ⟨Hb, Hw⟩
  rw [wp_ret]; imodintro
  -- the dense half
  ihave Hw := (Entails.of_eq (show (held (d : Thread nD τ) arrays (op3.result (op2.result (W3 m f d))) : sProp 𝕄)
    = held (d : Thread nD τ) arrays (W5 m f d) from rfl)) $$ Hw
  obtain ⟨R, hR⟩ := tcSt_one (F := F) d
  ihave Hst := (show (K (F := F)).tcSt EH d ((0 : Fin 1).val + 1) ⊢ iprop(settled (F := F) d ∗ R) from Entails.of_eq hR) $$ Hst
  icases Hst with ⟨Hs, HR⟩
  iapply (wp_dense m f d) $$ [Hb Hw Hs HG HR Hts]
  isplitr; · iapply (SparseCore.Cfg.ctx_levAts κ); iexact Hctx
  isplitl [Hb]; · iexact Hb
  isplitl [Hw]; · iexact Hw
  isplitl [Hs]; · iexact Hs
  isplitl [HG]; · iexact HG
  iintro ⟨Hb, Hw, Hs⟩
  -- the result in its shape
  iapply (StableHlo.wp_hlo_within 𝒱 (d : Thread nD τ) none Set.univ (op := op5) (S := arrays) op5_sub (V := W6 m f d)) $$ [Hb Hw]
  · isplitl [Hb]; · iexact Hb
    iexact Hw
  iintro ⟨Hb, Hw⟩
  rw [wp_ret]; imodintro; imodintro
  isplitl [Hs HR]
  · rw [hR]; isplitl [Hs] <;> iassumption
  isplitl [Hw]
  · unfold FIN
    iexists f
    isplitr; · ipureintro; exact hf
    ihave Hw := (show (held (d : Thread nD τ) arrays (op5.result (W6 m f d)) : sProp 𝕄)
      ⊢ iprop(held (d : Thread nD τ) ends (W7 m f d) ∗ held (d : Thread nD τ) (arrays \ ends) (W7 m f d)) from
      Entails.of_eq (StableHlo.held_sub_split (d : Thread nD τ) ends_sub (W7 m f d))) $$ Hw
    icases Hw with ⟨Hw, -⟩
    iexact Hw
  isplitl [Hb] <;> iassumption

/-! ## What the memory holds at the end -/

/-- The arguments are unchanged, and the result is the last step's, on some gathered array. -/
def Done (d : Dev nD) (mem : (ℓ : Loc nD τ sig) → Buf (Elt F) ℓ) : Prop :=
  mem ((d : Thread nD τ).loc main_arg0) = m ((d : Thread nD τ).loc main_arg0)
    ∧ mem ((d : Thread nD τ).loc main_arg1) = m ((d : Thread nD τ).loc main_arg1)
    ∧ ∃ f : S5341184.Idx → Elt F .f32, (∀ j, GatherAt (tab m d) inds j (f j))
      ∧ mem ((d : Thread nD τ).loc main_v44) = W7 m f d (main_v44 : DevRef τ sig)

omit [∀ e, Nonempty (Elt F e)] in
theorem hfin (d : Dev nD) (s' : Phys nD τ sig (Elt F)) : iprop(FIN m d ∗ SI s') ⊢ (⌜Done m d s'.mem.mem⌝ : sProp 𝕄) := by
  unfold FIN
  iintro ⟨⟨%f, %hf, H⟩, HSI⟩
  ihave H := (Entails.of_eq (held_ends d (W7 m f d))) $$ H
  icases H with ⟨H0, H1, H5⟩
  ihave H := (persistent_entails_right (SI_pointsTo_agree (st := s') (ℓ := (d : Thread nD τ).loc main_arg0) (I := Finset.univ) (q := fullShare)
    (f := W7 m f d (main_arg0 : DevRef τ sig)))) $$ [HSI H0]
  · isplitl [HSI] <;> iassumption
  icases H with ⟨%h0, HSI, -⟩
  ihave H := (persistent_entails_right (SI_pointsTo_agree (st := s') (ℓ := (d : Thread nD τ).loc main_arg1) (I := Finset.univ) (q := fullShare)
    (f := W7 m f d (main_arg1 : DevRef τ sig)))) $$ [HSI H1]
  · isplitl [HSI] <;> iassumption
  icases H with ⟨%h1, HSI, -⟩
  ihave H := (SI_pointsTo_agree (st := s') (ℓ := (d : Thread nD τ).loc main_v44) (I := Finset.univ) (q := fullShare)
    (f := W7 m f d (main_v44 : DevRef τ sig))) $$ [HSI H5]
  · isplitl [HSI] <;> iassumption
  icases H with %h5
  ipureintro
  exact ⟨(funext fun i => h0 i (Finset.mem_univ i)).trans (W7_arg0 m f d), (funext fun i => h1 i (Finset.mem_univ i)).trans (W7_arg1 m f d),
    f, hf, funext fun i => h5 i (Finset.mem_univ i)⟩

theorem run_main : θ_run (Cert.KernelIdeal.defs (F := F)) (Cert.KernelIdeal.threads (F := F)) ⟨m, fun _ => 0, ρ⟩
    (fun r => (∀ c : Dev nD, Done m c r.2.mem) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun d => G d) (FIN m) (u₀ (F := F)) (sep_elim_left.trans (hu₀ m)) (hmain m ρ) (fun d s' => Done m d s'.mem.mem) (hfin m)
    (fun r => (∀ c : Dev nD, Done m c r.2.mem) ∧ r.2.sem = fun _ => 0) (fun _ h hz => ⟨h, hz⟩)

/-! ## The result, entry by entry -/

/-- The last two coordinates of a place of the result. -/
def pairOf (i : S4x16x577x577.Idx) : Indices.Table.Idx := fun
  | 0 => ⟨(i 2).val, (i 2).isLt⟩
  | 1 => ⟨(i 3).val, (i 3).isLt⟩

/-- The place of the table that entry `i` of the result adds. -/
def pick (i : S4x16x577x577.Idx) : S16x2212.Idx := fun
  | 0 => ⟨(i 1).val, (i 1).isLt⟩
  | 1 => ⟨(Indices.rpi (pairOf i)).toNat, Indices.rpi_lt _⟩

/-- The result: the first argument plus the table's entries the indices select. -/
def result (c : Dev nD) : S4x16x577x577.Idx → Elt F .f32 := fun i =>
  FloatOps.addf (m ((c : Thread nD τ).loc main_arg0) i) (m ((c : Thread nD τ).loc main_arg1) (pick i))

end Cert.Proof.OfKernelIdeal

end
-- ==== Proof.KernelIdealResult.lean ====
/-
  What the program's result holds at every entry: the first argument's entry plus the table's entry the index selects.
-/
module

public import proofs.«01_k».proof.Proof.KernelIdealMain

@[expose] public section

noncomputable section

namespace Cert.Proof.OfKernelIdeal

open Cert.KernelIdeal Cert.KernelIdeal.Gen

open Idealize.ShloMosaic
open Idealize.ShloMosaic.TcCoe

variable {F : FTy → Type} [FloatOps F]

variable (m : (ℓ : Loc nD τ sig) → Buf (Elt F) ℓ) (ρ : Dev nD → PrngReg)

/-! ## Places -/

/-- A row and a column of the last two axes, as one number. -/
def flat (i : S4x16x577x577.Idx) : Fin 332929 := ⟨(i 2).val * 577 + (i 3).val, by
  have h2 : (i 2).val < 577 := (i 2).isLt
  have h3 : (i 3).val < 577 := (i 3).isLt
  omega⟩

/-- The same place with the last two axes as one, -/
def at3 (i : S4x16x577x577.Idx) : S4x16x332929.Idx := fun
  | 0 => ⟨(i 0).val, (i 0).isLt⟩
  | 1 => ⟨(i 1).val, (i 1).isLt⟩
  | 2 => flat i

/-- its entry of the gathered array, -/
def atGathered (i : S4x16x577x577.Idx) : S5341184.Idx := fun
  | 0 => ⟨(i 1).val * 333824 + (flat i).val, by
    have h1 : (i 1).val < 16 := (i 1).isLt
    have h2 := (flat i).isLt
    show (i 1).val * 333824 + (flat i).val < 5341184
    omega⟩

/-- and of the indices. -/
def atInds (i : S4x16x577x577.Idx) : S333824.Idx := fun
  | 0 => ⟨(flat i).val, by
    have h := (flat i).isLt
    show (flat i).val < 333824
    omega⟩

/-- A place of the table in the flat table. -/
def atTab (p : S16x2212.Idx) : S35392.Idx := fun
  | 0 => ⟨(p 0).val * 2212 + (p 1).val, by
    have h0 : (p 0).val < 16 := (p 0).isLt
    have h1 : (p 1).val < 2212 := (p 1).isLt
    show (p 0).val * 2212 + (p 1).val < 35392
    omega⟩

omit [FloatOps F] in
theorem inds_at (i : S4x16x577x577.Idx) : (inds (F := F) (atInds i)).toNat = (pick i 1).val := by
  have h : Indices.flat (pairOf i) = atInds i := funext fun a => by match a with | ⟨0, _⟩ => rfl
  unfold inds
  rw [← h, Indices.padded_at]; rfl

theorem tab_at (c : Dev nD) (p : S16x2212.Idx) : tab m c (atTab p) = m ((c : Thread nD τ).loc main_arg1) p := by
  unfold tab
  refine shapeCast_apply _ _ _ _ ?_
  exact (Shape.rowMajor_val_two (d := ![16, 2212]) p).trans (Shape.rowMajor_val_one (d := ![35392]) (atTab p)).symm

/-! ## The steps at a place -/

theorem v3_at (f : S5341184.Idx → Elt F .f32) (c : Dev nD) (i : S4x16x577x577.Idx) :
    V5 m f c main_v42 (at3 i) = m ((c : Thread nD τ).loc main_arg0) i := by
  unfold V5
  rw [W5_v3]
  refine shapeCast_apply _ _ _ _ ?_
  refine (Shape.rowMajor_val_four (d := ![4, 16, 577, 577]) i).trans (Eq.trans ?_ (Shape.rowMajor_val_three (d := ![4, 16, 332929]) (at3 i)).symm)
  show (((i 0).val * 16 + (i 1).val) * 577 + (i 2).val) * 577 + (i 3).val
    = ((i 0).val * 16 + (i 1).val) * 332929 + ((i 2).val * 577 + (i 3).val)
  omega

theorem v2_at (f : S5341184.Idx → Elt F .f32) (c : Dev nD) (i : S4x16x577x577.Idx) :
    V5 m f c main_v41 (under (at3 i)) = f (atGathered i) := by
  unfold V5
  rw [W5_v2]
  refine shapeCast_apply _ _ _ _ ?_
  exact (Shape.rowMajor_val_one (d := ![5341184]) (atGathered i)).trans (Shape.rowMajor_val_two (d := ![16, 333824]) (under (at3 i))).symm

theorem gathered_at {f : S5341184.Idx → Elt F .f32} {c : Dev nD} (hf : ∀ j, GatherAt (tab m c) inds j (f j)) (i : S4x16x577x577.Idx) :
    f (atGathered i) = m ((c : Thread nD τ).loc main_arg1) (pick i) := by
  rw [← tab_at m c (pick i)]
  have hk := (flat i).isLt
  have h1 : (i 1).val < 16 := (i 1).isLt
  refine hf (atGathered i) (atInds i) (atTab (pick i)) ?_ ?_
  · show (flat i).val = ((i 1).val * 333824 + (flat i).val) % 333824
    omega
  · rw [inds_at]
    show (i 1).val * 2212 + (pick i 1).val = (pick i 1).val + ((i 1).val * 333824 + (flat i).val) / 333824 * 2212
    have : ((i 1).val * 333824 + (flat i).val) / 333824 = (i 1).val := by omega
    rw [this]; omega

theorem v5_at {f : S5341184.Idx → Elt F .f32} {c : Dev nD} (hf : ∀ j, GatherAt (tab m c) inds j (f j)) :
    W7 m f c (main_v44 : DevRef τ sig) = result m c := by
  rw [W7_v5]
  funext i
  have h : shapeCast S4x16x577x577 (sums (V5 m f) c) shapeCasts_S4x16x332929_S4x16x577x577 i = sums (V5 m f) c (at3 i) := by
    refine shapeCast_apply _ _ _ _ ?_
    refine (Shape.rowMajor_val_three (d := ![4, 16, 332929]) (at3 i)).trans (Eq.trans ?_ (Shape.rowMajor_val_four (d := ![4, 16, 577, 577]) i).symm)
    show ((i 0).val * 16 + (i 1).val) * 332929 + ((i 2).val * 577 + (i 3).val)
      = (((i 0).val * 16 + (i 1).val) * 577 + (i 2).val) * 577 + (i 3).val
    omega
  refine h.trans ?_
  unfold sums result
  rw [v3_at, v2_at, gathered_at m hf]

/-! ## The program's run -/

/-- Every run ends, with no counter up, the arguments as they were, and the result at every entry the sum. -/
theorem run_result [∀ e, Nonempty (Elt F e)] :
    θ_run (Cert.KernelIdeal.defs (F := F)) (Cert.KernelIdeal.threads (F := F)) ⟨m, fun _ => 0, ρ⟩
      (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v44) = result m c) ∧ r.2.sem = fun _ => 0) :=
  (θ_run Cert.KernelIdeal.defs _ _).mono (fun _ h => ⟨fun c => by
    obtain ⟨h0, h1, f, hf, h5⟩ := h.1 c
    exact ⟨h0, h1, h5.trans (v5_at m hf)⟩, h.2⟩) (run_main (F := F) m ρ)

end Cert.Proof.OfKernelIdeal

end
-- ==== Proof.Reference.lean ====
/-
  What the reference computes: the first argument's entry plus the table's entry the index selects. Every index is a row number of
  the table, so the reference neither wraps one round nor fills an entry in.
-/
module

public import proofs.«01_k».proof.Proof.Gen.ReferenceIdeal.Run
public import proofs.«01_k».proof.Proof.Indices
public import Idealize.ShloMosaic.Lib.Pipeline.Value
public import Idealize.ShloMosaic.Lib.ReduceAll
public import Idealize.ShloMosaic.Lib.WordCmp
public import Idealize.ShloMosaic.Lib.ValueIdxCore
public import Idealize.ShloMosaic.Lib.Quiescent

@[expose] public section

noncomputable section

namespace Cert.Proof.OfReference

open Cert.ReferenceIdeal Cert.ReferenceIdeal.Gen

open Idealize.ShloMosaic
open Idealize.ShloMosaic.TcCoe

variable {F : FTy → Type} [FloatOps F]

/-! ## The indices -/

section Indices

variable (l : IVec S577x577 32)

/-- The indices as the reference reads them: a negative one counted from the table's end. -/
def starts : IVec S577x577x1 32 :=
  broadcastInDim S577x577x1 ![0, 1] bcast_S577x577_S577x577x1_0_1
    (select (cmpi .slt l (broadcastInDim S577x577 ![] bcast_S_S577x577 (constantI S_ 32 0#32)))
      (addi l (broadcastInDim S577x577 ![] bcast_S_S577x577 (constantI S_ 32 2212#32)))
      l)

/-- Where an index is a row number of the table. -/
def within : IVec S577x577 1 :=
  Host.reduce IntOp.andi
    (andi (cmpi .sge (starts l) (broadcastInDim S577x577x1 ![] bcast_S_S577x577x1 (constantI S_ 32 0#32)))
      (cmpi .sle (starts l) (broadcastInDim S577x577x1 ![0, 1, 2] bcast_S1x1x1_S577x577x1_0_1_2
        (broadcastInDim S1x1x1 ![2] bcast_S1_S1x1x1_2 (constantI S1 32 2211#32)))))
    (constantI S_ 1 1#1) reducesTo_S577x577x1_S577x577_d2 h_S_

/-- A place of the indices without its last axis. -/
def place (k : S577x577x1.Idx) : S577x577.Idx := fun
  | 0 => ⟨(k 0).val, (k 0).isLt⟩
  | 1 => ⟨(k 1).val, (k 1).isLt⟩

variable (hl : ∀ k, (l k).toNat < 2212)
include hl

theorem starts_at (k : S577x577x1.Idx) : starts l k = l (place k) := by
  unfold starts
  refine (broadcastInDim_apply _ _ _ k (place k) fun a => by match a with | ⟨0, _⟩ => rfl | ⟨1, _⟩ => rfl).trans ?_
  have h := hl (place k)
  show Scalar.select (IntOp.cmpi .slt (l (place k)) 0#32) _ (l (place k)) = _
  rw [WordCmp.cmpi_slt_zero, decide_eq_false (by omega)]
  exact ValueIdx.select_zero _ _

theorem within_at (j : S577x577.Idx) : within l j = 1#1 := by
  unfold within
  rw [Host.reduce_eq_foldl]
  refine IntOp.foldl_andi_one _ _ _ rfl fun k _ => ?_
  show IntOp.andi (IntOp.cmpi .sge (starts l k) 0#32) (IntOp.cmpi .sle (starts l k) 2211#32) = 1#1
  rw [starts_at l hl k]
  have h := hl (place k)
  rw [WordCmp.cmpi_sge_zero, WordCmp.cmpi_sle_of_lt (by omega) (by decide), decide_eq_true (by omega),
    decide_eq_true (by show (l (place k)).toNat ≤ 2211; omega)]
  rfl

end Indices

/-! ## The table's entries -/

/-- The place of the indices a place of the taken entries reads, -/
def startOf (j : S16x577x577.Idx) : S577x577x1.Idx := fun
  | 0 => ⟨(j 1).val, (j 1).isLt⟩
  | 1 => ⟨(j 2).val, (j 2).isLt⟩
  | 2 => ⟨0, Nat.one_pos⟩

/-- and the table's entry it takes. -/
def taken (l : IVec S577x577 32) (hl : ∀ k, (l k).toNat < 2212) (j : S16x577x577.Idx) : S16x2212.Idx := fun
  | 0 => ⟨(j 0).val, (j 0).isLt⟩
  | 1 => ⟨(l (place (startOf j))).toNat, hl _⟩

/-- How the entries are taken. -/
abbrev dims : GatherDims S16x2212 S577x577x1 S16x577x577 := gather_S16x2212_S577x577x1_S16x577x577_0_1_n_n_1_2_161

theorem gather_at {α : Type} (l : IVec S577x577 32) (hl : ∀ k, (l k).toNat < 2212) (x : S16x2212.Idx → α)
    (j : S16x577x577.Idx) : Host.gather dims x (starts l) j = x (taken l hl j) := by
  unfold Host.gather
  refine congrArg x (funext fun a => Fin.ext ?_)
  show dims.start j (starts l) a + dims.batchCoord j a + dims.offCoord j a = _
  rw [GatherDims.batchCoord_eq_zero _ _ _ (by exact List.not_mem_nil)]
  match a with
  | ⟨0, _⟩ =>
    have h0 : dims.start j (starts l) 0 = 0 := by
      unfold GatherDims.start
      exact dif_neg (by show (0 : Fin 2) ∉ [(1 : Fin 2)]; decide)
    show dims.start j (starts l) 0 + 0 + dims.offCoord j 0 = _
    rw [h0]
    unfold GatherDims.offCoord
    rw [dif_pos ((dims.mem_sKept 0).2 ⟨by show (0 : Fin 2) ∉ [(1 : Fin 2)]; decide, by exact List.not_mem_nil⟩)]
    rw [Nat.zero_add]
    rfl
  | ⟨1, _⟩ =>
    show dims.start j (starts l) 1 + 0 + dims.offCoord j 1 = _
    rw [GatherDims.offCoord_eq_zero _ _ _ (fun h => ((dims.mem_sKept 1).1 h).1 (by exact List.mem_singleton.2 rfl)), Nat.add_zero]
    unfold GatherDims.start
    have hm : (1 : Fin 2) ∈ dims.startIndexMap := by exact List.mem_singleton.2 rfl
    rw [dif_pos hm]
    have hs : dims.siIdx j ⟨dims.startIndexMap.idxOf (1 : Fin 2), List.idxOf_lt_length_iff.2 hm⟩ = startOf j := by
      funext b
      refine Fin.ext ?_
      match b with
      | ⟨0, _⟩ => rfl
      | ⟨1, _⟩ => rfl
      | ⟨2, _⟩ => rfl
    rw [hs, starts_at l hl]
    have h := hl (place (startOf j))
    have hi : (l (place (startOf j))).toInt = (l (place (startOf j))).toNat :=
      BitVec.toInt_eq_toNat_of_lt (by omega)
    show min (l (place (startOf j))).toInt.toNat 2211 = (l (place (startOf j))).toNat
    rw [hi]
    omega

/-! ## The sum -/

/-- A place of the result without its first axis. -/
def inner (i : S4x16x577x577.Idx) : S16x577x577.Idx := fun
  | 0 => ⟨(i 1).val, (i 1).isLt⟩
  | 1 => ⟨(i 2).val, (i 2).isLt⟩
  | 2 => ⟨(i 3).val, (i 3).isLt⟩

/-- The same, of a first axis of one. -/
def inner1 (i : S4x16x577x577.Idx) : S1x16x577x577.Idx := fun
  | 0 => ⟨0, Nat.one_pos⟩
  | 1 => ⟨(i 1).val, (i 1).isLt⟩
  | 2 => ⟨(i 2).val, (i 2).isLt⟩
  | 3 => ⟨(i 3).val, (i 3).isLt⟩

/-- The reference's result, its indices as they come. -/
def summed (l : IVec S577x577 32) (a : S4x16x577x577.Idx → F .f32) (x : S16x2212.Idx → F .f32) : S4x16x577x577.Idx → F .f32 :=
  addf a (broadcastInDim S4x16x577x577 ![0, 1, 2, 3] bcast_S1x16x577x577_S4x16x577x577_0_1_2_3
    (broadcastInDim S1x16x577x577 ![1, 2, 3] bcast_S16x577x577_S1x16x577x577_1_2_3
      (select (broadcastInDim S16x577x577 ![1, 2] bcast_S577x577_S16x577x577_1_2 (within l)) (Host.gather dims x (starts l))
        (broadcastInDim S16x577x577 ![] bcast_S_S16x577x577 (constant S_ .f32 0x7FC00000#32)))))

theorem summed_at (l : IVec S577x577 32) (hl : ∀ k, (l k).toNat < 2212) (a : S4x16x577x577.Idx → F .f32)
    (x : S16x2212.Idx → F .f32) (i : S4x16x577x577.Idx) : summed l a x i = FloatOps.addf (a i) (x (taken l hl (inner i))) := by
  unfold summed
  refine congrArg (FloatOps.addf (a i)) ?_
  refine (broadcastInDim_apply _ _ _ i (inner1 i) fun b => by
    match b with | ⟨0, _⟩ => rfl | ⟨1, _⟩ => rfl | ⟨2, _⟩ => rfl | ⟨3, _⟩ => rfl).trans ?_
  refine (broadcastInDim_apply _ _ _ (inner1 i) (inner i) fun b => by
    match b with | ⟨0, _⟩ => rfl | ⟨1, _⟩ => rfl | ⟨2, _⟩ => rfl).trans ?_
  have hw : broadcastInDim S16x577x577 ![1, 2] bcast_S577x577_S16x577x577_1_2 (within l) (inner i) = 1#1 :=
    (broadcastInDim_apply _ _ _ (inner i) (place (startOf (inner i))) fun b => by
      match b with | ⟨0, _⟩ => rfl | ⟨1, _⟩ => rfl).trans (within_at l hl _)
  show Scalar.select (broadcastInDim S16x577x577 ![1, 2] bcast_S577x577_S16x577x577_1_2 (within l) (inner i))
    (Host.gather dims x (starts l) (inner i)) _ = _
  rw [hw, gather_at l hl]
  exact ValueIdx.select_one _ _

/-! ## The reference's run -/

variable (m : (ℓ : Loc nD τ sig) → Buf (Elt F) ℓ) (ρ : Dev nD → PrngReg)

set_option maxRecDepth 8192 in
/-- The composed result is the sum, at the table of indices. -/
theorem res_eq (c : Dev nD) : Value.res_main_v40 m c
    = summed Indices.rpi (m ((c : Thread nD τ).loc main_arg0)) (m ((c : Thread nD τ).loc main_arg1)) := by
  unfold Value.res_main_v40; rfl

/-- Every run ends, with no counter up, the arguments as they were, and the result the sum. -/
theorem run_summed : θ_run Cert.ReferenceIdeal.defs (onTc (τ := τ) (Cert.ReferenceIdeal.main (F := F))) ⟨m, fun _ => 0, ρ⟩
    (fun r => (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v40)
        = summed Indices.rpi (m ((c : Thread nD τ).loc main_arg0)) (m ((c : Thread nD τ).loc main_arg1))) ∧ r.2.sem = fun _ => 0) :=
  (θ_run Cert.ReferenceIdeal.defs _ _).mono (fun r h => ⟨fun c => ⟨(h c).2.1, (h c).2.2, (h c).1.trans (res_eq m c)⟩,
    Idealize.ShloMosaic.sem_eq_zero_of_no_sems (by decide) r.2⟩) (Value.run m ρ)

end Cert.Proof.OfReference

end
-- ==== Proof.Algebra.lean ====
/-
  The kernel's sum is the reference's: both add to an entry of the first argument the entry of the table that one index selects.
-/
module

public import proofs.«01_k».proof.Proof.KernelIdealResult
public import proofs.«01_k».proof.Proof.Reference

@[expose] public section

noncomputable section

namespace Cert.Proof.Algebra

open Idealize.ShloMosaic
open Idealize.ShloMosaic.TcCoe

/-- The reference takes the entry of the bias table that the kernel does. -/
theorem taken_eq (i : Cert.KernelIdeal.S4x16x577x577.Idx) :
    OfReference.taken Indices.rpi Indices.rpi_lt (OfReference.inner i) = OfKernelIdeal.pick i := by
  have h : OfReference.place (OfReference.startOf (OfReference.inner i)) = OfKernelIdeal.pairOf i :=
    funext fun a => by match a with | ⟨0, _⟩ => rfl | ⟨1, _⟩ => rfl
  have e := congrArg (fun k => (Indices.rpi k).toNat) h
  funext a
  refine Fin.ext ?_
  match a with
  | ⟨0, _⟩ => rfl
  | ⟨1, _⟩ => exact e

/-- From memories that agree on the arguments the two results are one. -/
theorem sums_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    OfReference.summed (F := Ideal) Indices.rpi
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
      = OfKernelIdeal.result m c := by
  funext i
  refine (OfReference.summed_at _ Indices.rpi_lt _ _ i).trans ?_
  rw [taken_eq, h0, h1]
  rfl

end Cert.Proof.Algebra

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.KernelResult
public import proofs.«01_k».proof.Proof.KernelIdealResult
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem frame : Cert.quiescent_Kernel := fun m g _ =>
  (θ_run Cert.Kernel.defs _ _).mono (fun _ h => ⟨fun c => ⟨(h.1 c).1, (h.1 c).2.1⟩, h.2⟩) (OfKernel.run_result (F := Bits) m g)

theorem frame_ideal : Cert.quiescent_KernelIdeal := fun m g _ =>
  (θ_run Cert.KernelIdeal.defs _ _).mono (fun _ h => ⟨fun c => ⟨(h.1 c).1, (h.1 c).2.1⟩, h.2⟩) (OfKernelIdeal.run_result (F := Ideal) m g)

theorem frame_reference : Cert.quiescent_ReferenceIdeal := fun m g _ =>
  (θ_run Cert.ReferenceIdeal.defs _ _).mono (fun _ h => ⟨fun c => ⟨(h.1 c).1, (h.1 c).2.1⟩, h.2⟩) (OfReference.run_summed (F := Ideal) m g)

/-- The kernel and the reference end with the same sums. -/
theorem algebra : Cert.algebraic_KernelIdeal_ReferenceIdeal := fun m g m' g' _ hm =>
  ⟨fun c => OfKernelIdeal.result m c,
    (θ_run Cert.KernelIdeal.defs _ _).mono (fun _ h c => ⟨(h.1 c).2.2, (h.1 c).1, (h.1 c).2.1⟩) (OfKernelIdeal.run_result (F := Ideal) m g),
    (θ_run Cert.ReferenceIdeal.defs _ _).mono
      (fun _ h c => ⟨(h.1 c).2.2.trans (Algebra.sums_agree m m' c (hm c).1 (hm c).2), (h.1 c).1, (h.1 c).2.1⟩)
      (OfReference.run_summed (F := Ideal) m' g')⟩

theorem claim : Cert.Claim :=
  ⟨Cert.Kernel.Gen.facts, Cert.KernelIdeal.Gen.facts, Cert.ReferenceIdeal.Gen.facts, frame, frame_ideal, frame_reference, trivial, algebra⟩

end Cert.Proof

end
